-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x1280x18432 : Shape := ⟨3, ![6, 1280, 18432]⟩
abbrev S9216x7168 : Shape := ⟨2, ![9216, 7168]⟩
abbrev S7168 : Shape := ⟨1, ![7168]⟩
abbrev S256x256 : Shape := ⟨2, ![256, 256]⟩
abbrev S7680x18432 : Shape := ⟨2, ![7680, 18432]⟩
abbrev S7680x1 : Shape := ⟨2, ![7680, 1]⟩
abbrev S128x18432 : Shape := ⟨2, ![128, 18432]⟩
abbrev S128x1 : Shape := ⟨2, ![128, 1]⟩
abbrev S128x256 : Shape := ⟨2, ![128, 256]⟩
abbrev S128 : Shape := ⟨1, ![128]⟩
abbrev S1x7168 : Shape := ⟨2, ![1, 7168]⟩
abbrev S7680x7168 : Shape := ⟨2, ![7680, 7168]⟩
abbrev S512x1152 : Shape := ⟨2, ![512, 1152]⟩
abbrev S1152x1024 : Shape := ⟨2, ![1152, 1024]⟩
abbrev S512x1 : Shape := ⟨2, ![512, 1]⟩
abbrev S1x1024 : Shape := ⟨2, ![1, 1024]⟩
abbrev S512x1024 : Shape := ⟨2, ![512, 1024]⟩
abbrev S288x1024 : Shape := ⟨2, ![288, 1024]⟩
abbrev S6x1280x7168 : Shape := ⟨3, ![6, 1280, 7168]⟩
abbrev S6x1280 : Shape := ⟨2, ![6, 1280]⟩

abbrev nBuf : Space → Nat
  | .hbm => 12
  | .vmem => 21
  | .smem => 0
  | _ => 0

abbrev bufTy : (tb : Table) → Fin (tcTables nBuf tb) → BufTy
  | .hbm, ⟨0, _⟩ => ⟨S6x1280x18432, .bf16⟩
  | .hbm, ⟨1, _⟩ => ⟨S9216x7168, .i8⟩
  | .hbm, ⟨2, _⟩ => ⟨S7168, .f32⟩
  | .hbm, ⟨3, _⟩ => ⟨S256x256, .bf16⟩
  | .hbm, ⟨4, _⟩ => ⟨S7680x18432, .bf16⟩
  | .hbm, ⟨5, _⟩ => ⟨S7680x18432, .i8⟩
  | .hbm, ⟨6, _⟩ => ⟨S7680x1, .f32⟩
  | .hbm, ⟨7, _⟩ => ⟨S1x7168, .f32⟩
  | .hbm, ⟨8, _⟩ => ⟨S7680x7168, .bf16⟩
  | .hbm, ⟨9, _⟩ => ⟨S6x1280x7168, .bf16⟩
  | .hbm, ⟨10, _⟩ => ⟨S6x1280x18432, .i8⟩
  | .hbm, ⟨11, _⟩ => ⟨S6x1280, .f32⟩
  | .local _ .vmem, ⟨0, _⟩ => ⟨S128x18432, .bf16⟩
  | .local _ .vmem, ⟨1, _⟩ => ⟨S128x18432, .bf16⟩
  | .local _ .vmem, ⟨2, _⟩ => ⟨S256x256, .bf16⟩
  | .local _ .vmem, ⟨3, _⟩ => ⟨S128x18432, .i8⟩
  | .local _ .vmem, ⟨4, _⟩ => ⟨S128x18432, .i8⟩
  | .local _ .vmem, ⟨5, _⟩ => ⟨S128x1, .f32⟩
  | .local _ .vmem, ⟨6, _⟩ => ⟨S128x1, .f32⟩
  | .local _ .vmem, ⟨7, _⟩ => ⟨S128x18432, .f32⟩
  | .local _ .vmem, ⟨8, _⟩ => ⟨S512x1152, .i8⟩
  | .local _ .vmem, ⟨9, _⟩ => ⟨S512x1152, .i8⟩
  | .local _ .vmem, ⟨10, _⟩ => ⟨S512x1152, .i8⟩
  | .local _ .vmem, ⟨11, _⟩ => ⟨S512x1152, .i8⟩
  | .local _ .vmem, ⟨12, _⟩ => ⟨S1152x1024, .i8⟩
  | .local _ .vmem, ⟨13, _⟩ => ⟨S1152x1024, .i8⟩
  | .local _ .vmem, ⟨14, _⟩ => ⟨S512x1, .f32⟩
  | .local _ .vmem, ⟨15, _⟩ => ⟨S512x1, .f32⟩
  | .local _ .vmem, ⟨16, _⟩ => ⟨S1x1024, .f32⟩
  | .local _ .vmem, ⟨17, _⟩ => ⟨S1x1024, .f32⟩
  | .local _ .vmem, ⟨18, _⟩ => ⟨S512x1024, .bf16⟩
  | .local _ .vmem, ⟨19, _⟩ => ⟨S512x1024, .bf16⟩
  | .local _ .vmem, ⟨20, _⟩ => ⟨S512x1024, .f32⟩
  | _, _ => ⟨S6x1280x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18

abbrev nD : Nat := 1
abbrev τ : Topo := Topo.v7x

variable {F : FTy → Type} [FloatOps F]

abbrev grid0 : Pipeline.Grid := ⟨1, ![60], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x18432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x18432 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![15, 7, 8], ![false, false, false]⟩

def k1_cond3 (i : grid1.Coords) : BitVec 1 :=
  let arg2 : BitVec 32 := BitVec.ofNat 32 (i 2).val
  let c7_i32 : BitVec 32 := 7#32
  let v27 : BitVec 1 := Scalar.cmpi .eq arg2 c7_i32
  let v28 : BitVec 32 := Scalar.extui v27
  let c0_i32_10 : BitVec 32 := 0#32
  let v29 : BitVec 1 := Scalar.cmpi .ne v28 c0_i32_10
  v29

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi arg2 c8_i32
  let c0_i32 : BitVec 32 := 0#32
  ![arg0.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1152 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x1152 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1152x1024 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 2 → Memref sig .tc .vmem S512x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, false]

abbrev stage1_4 : Fin 2 → Memref sig .tc .vmem S1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 2 → Memref sig .tc .vmem S512x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]
-- ==== ReferenceIdeal.lean ====
abbrev S6x1280x18432 : Shape := ⟨3, ![6, 1280, 18432]⟩
abbrev S9216x7168 : Shape := ⟨2, ![9216, 7168]⟩
abbrev S7168 : Shape := ⟨1, ![7168]⟩
abbrev S2x2 : Shape := ⟨2, ![2, 2]⟩
abbrev S2x1x2x1 : Shape := ⟨4, ![2, 1, 2, 1]⟩
abbrev S1x2x1x2 : Shape := ⟨4, ![1, 2, 1, 2]⟩
abbrev S2x2x2x2 : Shape := ⟨4, ![2, 2, 2, 2]⟩
abbrev S4x4 : Shape := ⟨2, ![4, 4]⟩
abbrev S4x1x4x1 : Shape := ⟨4, ![4, 1, 4, 1]⟩
abbrev S4x2x4x2 : Shape := ⟨4, ![4, 2, 4, 2]⟩
abbrev S8x8 : Shape := ⟨2, ![8, 8]⟩
abbrev S8x1x8x1 : Shape := ⟨4, ![8, 1, 8, 1]⟩
abbrev S8x2x8x2 : Shape := ⟨4, ![8, 2, 8, 2]⟩
abbrev S16x16 : Shape := ⟨2, ![16, 16]⟩
abbrev S16x1x16x1 : Shape := ⟨4, ![16, 1, 16, 1]⟩
abbrev S16x2x16x2 : Shape := ⟨4, ![16, 2, 16, 2]⟩
abbrev S32x32 : Shape := ⟨2, ![32, 32]⟩
abbrev S32x1x32x1 : Shape := ⟨4, ![32, 1, 32, 1]⟩
abbrev S32x2x32x2 : Shape := ⟨4, ![32, 2, 32, 2]⟩
abbrev S64x64 : Shape := ⟨2, ![64, 64]⟩
abbrev S64x1x64x1 : Shape := ⟨4, ![64, 1, 64, 1]⟩
abbrev S64x2x64x2 : Shape := ⟨4, ![64, 2, 64, 2]⟩
abbrev S128x128 : Shape := ⟨2, ![128, 128]⟩
abbrev S_ : Shape := ⟨0, ![]⟩
abbrev S6x1280x144x128 : Shape := ⟨4, ![6, 1280, 144, 128]⟩
abbrev S7680x18432 : Shape := ⟨2, ![7680, 18432]⟩
abbrev S1x7168 : Shape := ⟨2, ![1, 7168]⟩
abbrev S7680x7168 : Shape := ⟨2, ![7680, 7168]⟩
abbrev S7680x1 : Shape := ⟨2, ![7680, 1]⟩
abbrev S7680 : Shape := ⟨1, ![7680]⟩
abbrev S7680x9216 : Shape := ⟨2, ![7680, 9216]⟩
abbrev S6x1280x7168 : Shape := ⟨3, ![6, 1280, 7168]⟩
abbrev S6x1280 : Shape := ⟨2, ![6, 1280]⟩

abbrev nBuf : Space → Nat
  | .hbm => 77
  | .vmem => 7
  | .smem => 0
  | _ => 0

abbrev bufTy : (tb : Table) → Fin (tcTables nBuf tb) → BufTy
  | .hbm, ⟨0, _⟩ => ⟨S6x1280x18432, .bf16⟩
  | .hbm, ⟨1, _⟩ => ⟨S9216x7168, .i8⟩
  | .hbm, ⟨2, _⟩ => ⟨S7168, .f32⟩
  | .hbm, ⟨3, _⟩ => ⟨S2x2, .f32⟩
  | .hbm, ⟨4, _⟩ => ⟨S2x1x2x1, .f32⟩
  | .hbm, ⟨5, _⟩ => ⟨S1x2x1x2, .f32⟩
  | .hbm, ⟨6, _⟩ => ⟨S2x2x2x2, .f32⟩
  | .hbm, ⟨7, _⟩ => ⟨S2x2x2x2, .f32⟩
  | .hbm, ⟨8, _⟩ => ⟨S2x2x2x2, .f32⟩
  | .hbm, ⟨9, _⟩ => ⟨S4x4, .f32⟩
  | .hbm, ⟨10, _⟩ => ⟨S4x1x4x1, .f32⟩
  | .hbm, ⟨11, _⟩ => ⟨S1x2x1x2, .f32⟩
  | .hbm, ⟨12, _⟩ => ⟨S4x2x4x2, .f32⟩
  | .hbm, ⟨13, _⟩ => ⟨S4x2x4x2, .f32⟩
  | .hbm, ⟨14, _⟩ => ⟨S4x2x4x2, .f32⟩
  | .hbm, ⟨15, _⟩ => ⟨S8x8, .f32⟩
  | .hbm, ⟨16, _⟩ => ⟨S8x1x8x1, .f32⟩
  | .hbm, ⟨17, _⟩ => ⟨S1x2x1x2, .f32⟩
  | .hbm, ⟨18, _⟩ => ⟨S8x2x8x2, .f32⟩
  | .hbm, ⟨19, _⟩ => ⟨S8x2x8x2, .f32⟩
  | .hbm, ⟨20, _⟩ => ⟨S8x2x8x2, .f32⟩
  | .hbm, ⟨21, _⟩ => ⟨S16x16, .f32⟩
  | .hbm, ⟨22, _⟩ => ⟨S16x1x16x1, .f32⟩
  | .hbm, ⟨23, _⟩ => ⟨S1x2x1x2, .f32⟩
  | .hbm, ⟨24, _⟩ => ⟨S16x2x16x2, .f32⟩
  | .hbm, ⟨25, _⟩ => ⟨S16x2x16x2, .f32⟩
  | .hbm, ⟨26, _⟩ => ⟨S16x2x16x2, .f32⟩
  | .hbm, ⟨27, _⟩ => ⟨S32x32, .f32⟩
  | .hbm, ⟨28, _⟩ => ⟨S32x1x32x1, .f32⟩
  | .hbm, ⟨29, _⟩ => ⟨S1x2x1x2, .f32⟩
  | .hbm, ⟨30, _⟩ => ⟨S32x2x32x2, .f32⟩
  | .hbm, ⟨31, _⟩ => ⟨S32x2x32x2, .f32⟩
  | .hbm, ⟨32, _⟩ => ⟨S32x2x32x2, .f32⟩
  | .hbm, ⟨33, _⟩ => ⟨S64x64, .f32⟩
  | .hbm, ⟨34, _⟩ => ⟨S64x1x64x1, .f32⟩
  | .hbm, ⟨35, _⟩ => ⟨S1x2x1x2, .f32⟩
  | .hbm, ⟨36, _⟩ => ⟨S64x2x64x2, .f32⟩
  | .hbm, ⟨37, _⟩ => ⟨S64x2x64x2, .f32⟩
  | .hbm, ⟨38, _⟩ => ⟨S64x2x64x2, .f32⟩
  | .hbm, ⟨39, _⟩ => ⟨S128x128, .f32⟩
  | .hbm, ⟨40, _⟩ => ⟨S_, .f32⟩
  | .hbm, ⟨41, _⟩ => ⟨S128x128, .f32⟩
  | .hbm, ⟨42, _⟩ => ⟨S128x128, .f32⟩
  | .hbm, ⟨43, _⟩ => ⟨S6x1280x18432, .f32⟩
  | .hbm, ⟨44, _⟩ => ⟨S6x1280x144x128, .f32⟩
  | .hbm, ⟨45, _⟩ => ⟨S6x1280x144x128, .f32⟩
  | .hbm, ⟨46, _⟩ => ⟨S7680x18432, .f32⟩
  | .hbm, ⟨47, _⟩ => ⟨S9216x7168, .i32⟩
  | .hbm, ⟨48, _⟩ => ⟨S_, .i32⟩
  | .hbm, ⟨49, _⟩ => ⟨S9216x7168, .i32⟩
  | .hbm, ⟨50, _⟩ => ⟨S9216x7168, .i32⟩
  | .hbm, ⟨51, _⟩ => ⟨S_, .i32⟩
  | .hbm, ⟨52, _⟩ => ⟨S9216x7168, .i32⟩
  | .hbm, ⟨53, _⟩ => ⟨S9216x7168, .i1⟩
  | .hbm, ⟨54, _⟩ => ⟨S_, .i32⟩
  | .hbm, ⟨55, _⟩ => ⟨S9216x7168, .i32⟩
  | .hbm, ⟨56, _⟩ => ⟨S9216x7168, .i32⟩
  | .hbm, ⟨57, _⟩ => ⟨S9216x7168, .i32⟩
  | .hbm, ⟨58, _⟩ => ⟨S9216x7168, .i8⟩
  | .hbm, ⟨59, _⟩ => ⟨S_, .i32⟩
  | .hbm, ⟨60, _⟩ => ⟨S9216x7168, .i32⟩
  | .hbm, ⟨61, _⟩ => ⟨S9216x7168, .i32⟩
  | .hbm, ⟨62, _⟩ => ⟨S_, .i32⟩
  | .hbm, ⟨63, _⟩ => ⟨S9216x7168, .i32⟩
  | .hbm, ⟨64, _⟩ => ⟨S9216x7168, .i1⟩
  | .hbm, ⟨65, _⟩ => ⟨S_, .i32⟩
  | .hbm, ⟨66, _⟩ => ⟨S9216x7168, .i32⟩
  | .hbm, ⟨67, _⟩ => ⟨S9216x7168, .i32⟩
  | .hbm, ⟨68, _⟩ => ⟨S9216x7168, .i32⟩
  | .hbm, ⟨69, _⟩ => ⟨S9216x7168, .i8⟩
  | .hbm, ⟨70, _⟩ => ⟨S1x7168, .f32⟩
  | .hbm, ⟨71, _⟩ => ⟨S7680x7168, .bf16⟩
  | .hbm, ⟨72, _⟩ => ⟨S7680x18432, .i8⟩
  | .hbm, ⟨73, _⟩ => ⟨S7680x1, .f32⟩
  | .hbm, ⟨74, _⟩ => ⟨S6x1280x7168, .bf16⟩
  | .hbm, ⟨75, _⟩ => ⟨S6x1280x18432, .i8⟩
  | .hbm, ⟨76, _⟩ => ⟨S6x1280, .f32⟩
  | .local _ .vmem, ⟨0, _⟩ => ⟨S7680x18432, .f32⟩
  | .local _ .vmem, ⟨1, _⟩ => ⟨S9216x7168, .i8⟩
  | .local _ .vmem, ⟨2, _⟩ => ⟨S9216x7168, .i8⟩
  | .local _ .vmem, ⟨3, _⟩ => ⟨S1x7168, .f32⟩
  | .local _ .vmem, ⟨4, _⟩ => ⟨S7680x7168, .bf16⟩
  | .local _ .vmem, ⟨5, _⟩ => ⟨S7680x18432, .i8⟩
  | .local _ .vmem, ⟨6, _⟩ => ⟨S7680x1, .f32⟩
  | _, _ => ⟨S6x1280x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_call1_v0 : Ref sig .tc := ⟨.hbm, 10, rfl⟩
abbrev main_call1_v1 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_v1 : Ref sig .tc := ⟨.hbm, 15, rfl⟩
abbrev main_call2_v0 : Ref sig .tc := ⟨.hbm, 16, rfl⟩
abbrev main_call2_v1 : Ref sig .tc := ⟨.hbm, 17, rfl⟩
abbrev main_call2_v2 : Ref sig .tc := ⟨.hbm, 18, rfl⟩
abbrev main_call2_v3 : Ref sig .tc := ⟨.hbm, 19, rfl⟩
abbrev main_call2_v4 : Ref sig .tc := ⟨.hbm, 20, rfl⟩
abbrev main_v2 : Ref sig .tc := ⟨.hbm, 21, rfl⟩
abbrev main_call3_v0 : Ref sig .tc := ⟨.hbm, 22, rfl⟩
abbrev main_call3_v1 : Ref sig .tc := ⟨.hbm, 23, rfl⟩
abbrev main_call3_v2 : Ref sig .tc := ⟨.hbm, 24, rfl⟩
abbrev main_call3_v3 : Ref sig .tc := ⟨.hbm, 25, rfl⟩
abbrev main_call3_v4 : Ref sig .tc := ⟨.hbm, 26, rfl⟩
abbrev main_v3 : Ref sig .tc := ⟨.hbm, 27, rfl⟩
abbrev main_call4_v0 : Ref sig .tc := ⟨.hbm, 28, rfl⟩
abbrev main_call4_v1 : Ref sig .tc := ⟨.hbm, 29, rfl⟩
abbrev main_call4_v2 : Ref sig .tc := ⟨.hbm, 30, rfl⟩
abbrev main_call4_v3 : Ref sig .tc := ⟨.hbm, 31, rfl⟩
abbrev main_call4_v4 : Ref sig .tc := ⟨.hbm, 32, rfl⟩
abbrev main_v4 : Ref sig .tc := ⟨.hbm, 33, rfl⟩
abbrev main_call5_v0 : Ref sig .tc := ⟨.hbm, 34, rfl⟩
abbrev main_call5_v1 : Ref sig .tc := ⟨.hbm, 35, rfl⟩
abbrev main_call5_v2 : Ref sig .tc := ⟨.hbm, 36, rfl⟩
abbrev main_call5_v3 : Ref sig .tc := ⟨.hbm, 37, rfl⟩
abbrev main_call5_v4 : Ref sig .tc := ⟨.hbm, 38, rfl⟩
abbrev main_v5 : Ref sig .tc := ⟨.hbm, 39, rfl⟩
abbrev main_cst_0 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_c : Ref sig .tc := ⟨.hbm, 48, rfl⟩
abbrev main_v13 : Ref sig .tc := ⟨.hbm, 49, rfl⟩
abbrev main_v14 : Ref sig .tc := ⟨.hbm, 50, rfl⟩
abbrev main_c_1 : Ref sig .tc := ⟨.hbm, 51, rfl⟩
abbrev main_v15 : Ref sig .tc := ⟨.hbm, 52, rfl⟩
abbrev main_v16 : Ref sig .tc := ⟨.hbm, 53, rfl⟩
abbrev main_c_2 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_c_3 : Ref sig .tc := ⟨.hbm, 59, rfl⟩
abbrev main_v21 : Ref sig .tc := ⟨.hbm, 60, rfl⟩
abbrev main_v22 : Ref sig .tc := ⟨.hbm, 61, rfl⟩
abbrev main_c_4 : Ref sig .tc := ⟨.hbm, 62, rfl⟩
abbrev main_v23 : Ref sig .tc := ⟨.hbm, 63, rfl⟩
abbrev main_v24 : Ref sig .tc := ⟨.hbm, 64, rfl⟩
abbrev main_c_5 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30_0 : Ref sig .tc := ⟨.hbm, 71, rfl⟩
abbrev main_v30_1 : Ref sig .tc := ⟨.hbm, 72, rfl⟩
abbrev main_v30_2 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S7680x18432 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9216x7168 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9216x7168 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7680x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S7680x18432 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S7680x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelR0Runs.lean ====
/- What the runs of the rotate-and-quantise region share: its blocks, the conditions of its branches, its staging and scratch buffers,
   over any contents `V` of the unscoped buffers at its entry. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.R0

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 2, through which its contents are stated (`View.read_writes_of_cover`: the
    choice does not matter). -/
abbrev VO0_2 : View sig .tc .vmem S128x18432 .i8 := (Memref.whole cc0_stg2_0 : Memref sig .tc .vmem S128x18432 .i8).view
/-- One staging buffer of output window 3, through which its contents are stated (`View.read_writes_of_cover`: the
    choice does not matter). -/
abbrev VO0_3 : View sig .tc .vmem S128x1 .f32 := (Memref.whole cc0_stg3_0 : Memref sig .tc .vmem S128x1 .f32).view
/-- Each window's current staging memref at point `t`, spelled as the pipeline passes it (`bodyAt0`), and its wholeness. -/
abbrev ms0_0 (t : Fin cfg0.N) : Memref sig .tc .vmem S128x18432 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x18432 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x1 .f32 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S128x18432 .f32 := Memref.whole cc0_scratch0

/-- What the region's invariant carries beside its own scratch: every other scoped buffer at some contents, and the generator
    register at some state. -/
def Oth (c : Dev nD) : sProp 𝕄 :=
  iprop(Pipeline.scopedRestBut (Ix := Unit) (Name := ℕ) (U := UR sig nD τ) (Lvl := ℕ) (Val := Elt F) spec0 c [cc0_scratch0] ∗ (∃ r, prngReg c r))

/-- The class's invariant with the kernel's own scratch owned at some contents and the rest unopened. -/
theorem PhiA0_eq (c : Dev nD) :
    (Pipeline.ΦA spec0 c : sProp 𝕄)
      = iprop(iprop((∃ d, owns (c : Thread nD τ) scM0_0 fullShare d)) ∗ Oth c) := by
  unfold Pipeline.ΦA Oth
  rw [Pipeline.scopedRest_split_of_list spec0 c [cc0_scratch0] (by decide) (by decide)]
  simp only [scM0_0, owns_whole]
  exact (Idealize.SL.BI.Entails.antisymm Idealize.SL.BI.sep_assoc Idealize.SL.BI.sep_assoc')

end Cert.Kernel.R0

end
-- ==== Proof.KernelR0RunA.lean ====
/- The body of the rotate-and-quantise region, run in case A. -/
module

public import proofs.«01_k».proof.Proof.KernelR0Runs

@[expose] public section

set_option maxRecDepth 16384

noncomputable section

namespace Cert.Kernel.R0

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 2400000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S128x18432 .bf16) (harg1 : arg1.IsWhole) (arg2 : Memref sig .tc .vmem S256x256 .bf16) (harg2 : arg2.IsWhole) (arg3 : Memref sig .tc .vmem S128x18432 .i8) (harg3 : arg3.IsWhole) (arg4 : Memref sig .tc .vmem S128x1 .f32) (harg4 : arg4.IsWhole) (arg5 : Memref sig .tc .vmem S128x18432 .f32) (harg5 : arg5.IsWhole)
    (x0 : Vec F S128x18432 .bf16) (x1 : Vec F S256x256 .bf16) :
    Σ' (L2 : List (View.Piece (Elt F) S128x18432 .i8)), Σ' (L3 : List (View.Piece (Elt F) S128x1 .f32)), { LT0 : List (View.Piece (Elt F) S128x18432 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LT0)) -∗ K ⟨⟩))
          ⊢ wp frame (wpE (defs₀ (F := F)) Variants.none c none) E (cc0_rotate_quantise i arg1 harg1 arg2 harg2 arg3 harg3 arg4 harg4 arg5 harg5) K } := by
  refine ⟨?_, ?_, ?_, fun E K => ?run⟩
  case run =>
    simp only [cc0_rotate_quantise_eq_skeleton]; unfold cc0_rotate_quantise_skel
    simp only [k0_part44_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
    unfold owns
    iintro ⟨⟨%f0, %hf0, H0⟩, ⟨%f1, %hf1, H1⟩, ⟨%d2, %f2, -, H2⟩, ⟨%d3, %f3, -, H3⟩, ⟨%ds0, %fs0, -, HS0⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact HS0

end Cert.Kernel.R0

end
-- ==== Proof.KernelR0Frame.lean ====
/- The proof data of the rotate-and-quantise region and its body obligation. -/
module

public import proofs.«01_k».proof.Proof.KernelR0RunA
public import Idealize.ShloMosaic.Lib.Claim

@[expose] public section

set_option maxRecDepth 16384

noncomputable section

namespace Cert.Kernel.R0

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The run's pieces for output 2 tile its block (72 stores of `S128x256`, checked by the kernel's evaluation: Lib/Ring.lean `Piece.tiledL`, linear in the pieces, through a loop's `@[irreducible]` trip theorem too), so they cover it. -/
theorem cover0_A_2 (c : Dev nD) (i : grid0.Coords) (arg1 : Memref sig .tc .vmem S128x18432 .bf16) (harg1 : arg1.IsWhole) (arg2 : Memref sig .tc .vmem S256x256 .bf16) (harg2 : arg2.IsWhole) (arg3 : Memref sig .tc .vmem S128x18432 .i8) (harg3 : arg3.IsWhole) (arg4 : Memref sig .tc .vmem S128x1 .f32) (harg4 : arg4.IsWhole) (arg5 : Memref sig .tc .vmem S128x18432 .f32) (harg5 : arg5.IsWhole)
    (x0 : Vec F S128x18432 .bf16) (x1 : Vec F S256x256 .bf16) (y : S128x18432.Idx) :
    ∃ pc ∈ (kernelRun0_A c i arg1 harg1 arg2 harg2 arg3 harg3 arg4 harg4 arg5 harg5 x0 x1).1, y ∈ pc.1.set :=
  View.cover_of_tiledL (kernelRun0_A c i arg1 harg1 arg2 harg2 arg3 harg3 arg4 harg4 arg5 harg5 x0 x1).1 S128x256.size (by sl_kernel_rfl) y

/-- What the run leaves in output 2's staging buffer: its pieces read back over junk. -/
def out0_A_2 (c : Dev nD) (i : grid0.Coords) (arg1 : Memref sig .tc .vmem S128x18432 .bf16) (harg1 : arg1.IsWhole) (arg2 : Memref sig .tc .vmem S256x256 .bf16) (harg2 : arg2.IsWhole) (arg3 : Memref sig .tc .vmem S128x18432 .i8) (harg3 : arg3.IsWhole) (arg4 : Memref sig .tc .vmem S128x1 .f32) (harg4 : arg4.IsWhole) (arg5 : Memref sig .tc .vmem S128x18432 .f32) (harg5 : arg5.IsWhole)
    (x0 : Vec F S128x18432 .bf16) (x1 : Vec F S256x256 .bf16) : Vec F S128x18432 .i8 :=
  VO0_2.read (Elt F) (VO0_2.writes (Elt F) VO0_2.junk (kernelRun0_A c i arg1 harg1 arg2 harg2 arg3 harg3 arg4 harg4 arg5 harg5 x0 x1).1)

/-- The run's pieces for output 3 tile its block (1 store of `S128x1`, checked by the kernel's evaluation: Lib/Ring.lean `Piece.tiledL`, linear in the pieces, through a loop's `@[irreducible]` trip theorem too), so they cover it. -/
theorem cover0_A_3 (c : Dev nD) (i : grid0.Coords) (arg1 : Memref sig .tc .vmem S128x18432 .bf16) (harg1 : arg1.IsWhole) (arg2 : Memref sig .tc .vmem S256x256 .bf16) (harg2 : arg2.IsWhole) (arg3 : Memref sig .tc .vmem S128x18432 .i8) (harg3 : arg3.IsWhole) (arg4 : Memref sig .tc .vmem S128x1 .f32) (harg4 : arg4.IsWhole) (arg5 : Memref sig .tc .vmem S128x18432 .f32) (harg5 : arg5.IsWhole)
    (x0 : Vec F S128x18432 .bf16) (x1 : Vec F S256x256 .bf16) (y : S128x1.Idx) :
    ∃ pc ∈ (kernelRun0_A c i arg1 harg1 arg2 harg2 arg3 harg3 arg4 harg4 arg5 harg5 x0 x1).2.1, y ∈ pc.1.set :=
  View.cover_of_tiledL (kernelRun0_A c i arg1 harg1 arg2 harg2 arg3 harg3 arg4 harg4 arg5 harg5 x0 x1).2.1 S128x1.size (by sl_kernel_rfl) y

/-- What the run leaves in output 3's staging buffer: its pieces read back over junk. -/
def out0_A_3 (c : Dev nD) (i : grid0.Coords) (arg1 : Memref sig .tc .vmem S128x18432 .bf16) (harg1 : arg1.IsWhole) (arg2 : Memref sig .tc .vmem S256x256 .bf16) (harg2 : arg2.IsWhole) (arg3 : Memref sig .tc .vmem S128x18432 .i8) (harg3 : arg3.IsWhole) (arg4 : Memref sig .tc .vmem S128x1 .f32) (harg4 : arg4.IsWhole) (arg5 : Memref sig .tc .vmem S128x18432 .f32) (harg5 : arg5.IsWhole)
    (x0 : Vec F S128x18432 .bf16) (x1 : Vec F S256x256 .bf16) : Vec F S128x1 .f32 :=
  VO0_3.read (Elt F) (VO0_3.writes (Elt F) VO0_3.junk (kernelRun0_A c i arg1 harg1 arg2 harg2 arg3 harg3 arg4 harg4 arg5 harg5 x0 x1).2.1)

/-! ## What the outputs hold after each point -/

/-- What the outputs' staging buffers hold after the body at point `t` (as a tuple, in window order): the run's contents at
    the point's memrefs and input blocks. -/
def outsAt0 (c : Dev nD) (t : Fin cfg0.N) : Vec F S128x18432 .i8 × Vec F S128x1 .f32 :=
  (out0_A_2 c (grid0.coords t) (ms0_0 t) (hs0_0 t) (ms0_1 t) (hs0_1 t) (ms0_2 t) (hs0_2 t) (ms0_3 t) (hs0_3 t) scM0_0 (Memref.isWhole_whole _) (iblk V c 0 t) (iblk V c 1 t), out0_A_3 c (grid0.coords t) (ms0_0 t) (hs0_0 t) (ms0_1 t) (hs0_1 t) (ms0_2 t) (hs0_2 t) (ms0_3 t) (hs0_3 t) scM0_0 (Memref.isWhole_whole _) (iblk V c 0 t) (iblk V c 1 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt0 V c t).1
    | ⟨3, _⟩ => (outsAt0 V c t).2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dat V c).A w = V c (Pipeline.arrRef spec0 w) := by
  dsimp only [dat]

/-- What the body leaves, window by window (the proof data's `match` reduced by `dsimp`). -/
theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = (outsAt0 V c t).1 := by dsimp only [dat]
theorem after0_3 (c : Dev nD) (t : Fin cfg0.N) : (dat V c).after 3 t = (outsAt0 V c t).2 := by dsimp only [dat]

/-- Each input's current staging buffer holds its block at every point, fetched there or not (`beforeK_W_of`). -/
theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d

/-! ## The body obligation, at a generic point -/

/-- What the body is called with at point `t` (Lib/Pipeline.lean `BodyObligation`'s precondition, the windows one by one), -/
def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (ms0_0 t) fullShare ((dat V c).after 0 t)
    ∗ owns (c : Thread nD τ) (ms0_1 t) fullShare ((dat V c).after 1 t)
    ∗ owns (c : Thread nD τ) (ms0_2 t) fullShare ((dat V c).after 2 t)
    ∗ owns (c : Thread nD τ) (ms0_3 t) fullShare ((dat V c).after 3 t))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat V c).Φ t.succ = (dat V c).Φ t.castSucc from rfl,
    show (dat V c).owesAt () t.succ = (dat V c).owesAt () t.castSucc from rfl,
    after0_0, after0_1, after0_2, after0_3]
  rw [show (dat V c).Φ t.castSucc = Pipeline.ΦA spec0 c from rfl, PhiA0_eq]
  unfold outsAt0
  unfold out0_A_2 out0_A_3; (try dsimp only)
  iintro ⟨⟨HS0, Hg⟩, Ho, ⟨%d0, H0⟩, ⟨%d1, H1⟩, ⟨%d2, H2⟩, ⟨%d3, H3⟩⟩
  iapply ((kernelRun0_A c (grid0.coords t) _ _ _ _ _ _ _ _ _ _ (iblk V c 0 t) (iblk V c 1 t)).2.2.2 Set.univ _)
  isplitl [H0]; · iexact H0
  isplitl [H1]; · iexact H1
  isplitl [H2]; · iexists _; iexact H2
  isplitl [H3]; · iexists _; iexact H3
  isplitl [HS0]; · iexact HS0
  iintro ⟨H0, H1, ⟨%e2, H2⟩, ⟨%e3, H3⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover0_A_2 c _ _ _ _ _ _ _ _ _ _ _ _ _)
  unfold owns; iexists _; isplitr
  swap; · iexact H3
  ipureintro; exact View.read_writes_of_cover _ _ _ _ _ (cover0_A_3 c _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

end Cert.Kernel.R0

end
-- ==== Proof.KernelR1Runs.lean ====
/- What the runs of the matrix-product region share: its blocks, the conditions of its branches, its staging and scratch buffers,
   over any contents `V` of the unscoped buffers at its entry. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.R1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k1_h1`), from the grid coordinates (the skeleton's scalar
    chain substituted). -/
abbrev cond0_0 (i : grid1.Coords) : Prop := (Scalar.cmpi .ne (Scalar.extui (Scalar.cmpi .eq (BitVec.ofNat 32 (i 2).val) 0#32)) 0#32) = 1#1
/-- It holds at the points ≡ 0 (mod 8) — by arithmetic of the point. -/
theorem hcond0_0 : ∀ t : Fin cfg1.N, cond0_0 (grid1.coords t) ↔ t.val % 8 = 0 :=
  (fun t => by
    have ht : t.val < 840 := Nat.lt_of_lt_of_eq t.isLt N_1
    have e0 : (grid1.coords t 0).val = t.val / 56 % 15 := Pipeline.Grid.coords_val t 0 (by decide) rfl
    have e1 : (grid1.coords t 1).val = t.val / 8 % 7 := Pipeline.Grid.coords_val t 1 (by decide) rfl
    have e2 : (grid1.coords t 2).val = t.val / 1 % 8 := Pipeline.Grid.coords_val t 2 (by decide) rfl
    simp only [cond0_0, e0, e1, e2]
    word_cmp
   : ∀ t : Fin grid1.N, cond0_0 (grid1.coords t) ↔ t.val % 8 = 0)

/-- The condition of the body's `scf.if` 1 (`k1_h2`), from the grid coordinates (the skeleton's scalar
    chain substituted). -/
abbrev cond0_1 (i : grid1.Coords) : Prop := (Scalar.cmpi .ne (Scalar.extui (Scalar.cmpi .sgt (BitVec.ofNat 32 (i 2).val) 0#32)) 0#32) = 1#1
/-- It holds at the points whose coordinates have 1 ≤ i2 — decided over the grid. -/
theorem hcond0_1 : ∀ t : Fin cfg1.N, cond0_1 (grid1.coords t) ↔ 1 ≤ t.val % 8 :=
  (by decide +kernel : ∀ t : Fin grid1.N, cond0_1 (grid1.coords t) ↔ 1 ≤ t.val % 8)

/-- The condition of the body's `scf.if` 2 (`k1_h3`), from the grid coordinates (the skeleton's scalar
    chain substituted). -/
abbrev cond0_2 (i : grid1.Coords) : Prop := k1_cond3 i = 1#1
/-- It holds at the points ≡ 7 (mod 8) — by arithmetic of the point. -/
theorem hcond0_2 : ∀ t : Fin cfg1.N, cond0_2 (grid1.coords t) ↔ t.val % 8 = 7 :=
  (fun t => by
    have ht : t.val < 840 := Nat.lt_of_lt_of_eq t.isLt N_1
    have e0 : (grid1.coords t 0).val = t.val / 56 % 15 := Pipeline.Grid.coords_val t 0 (by decide) rfl
    have e1 : (grid1.coords t 1).val = t.val / 8 % 7 := Pipeline.Grid.coords_val t 1 (by decide) rfl
    have e2 : (grid1.coords t 2).val = t.val / 1 % 8 := Pipeline.Grid.coords_val t 2 (by decide) rfl
    simp only [cond0_2, k1_cond3, e0, e1, e2]
    word_cmp
   : ∀ t : Fin grid1.N, cond0_2 (grid1.coords t) ↔ t.val % 8 = 7)

/-! ## Where the windows are idle (the printed configuration's table `Cfg.idle`) -/

/-- Window 0 is never idle (an input). -/
theorem liveAt0_0 : ∀ t : Fin cfg1.N, cfg1.idle 0 (grid1.coords t) = false := fun _ => rfl
/-- Window 1 is never idle (an input). -/
theorem liveAt0_1 : ∀ t : Fin cfg1.N, cfg1.idle 1 (grid1.coords t) = false := fun _ => rfl
/-- Window 2 is never idle (an input). -/
theorem liveAt0_2 : ∀ t : Fin cfg1.N, cfg1.idle 2 (grid1.coords t) = false := fun _ => rfl
/-- Window 3 is never idle (an input). -/
theorem liveAt0_3 : ∀ t : Fin cfg1.N, cfg1.idle 3 (grid1.coords t) = false := fun _ => rfl
/-- Window 4 is never idle (an input). -/
theorem liveAt0_4 : ∀ t : Fin cfg1.N, cfg1.idle 4 (grid1.coords t) = false := fun _ => rfl
/-- At the points of case A the printed configuration (`Cfg.idle`) calls output 5 idle: the case stores nothing into it. -/
theorem idleAt0_5_A : ∀ t : Fin cfg1.N, cond0_0 (grid1.coords t) → ¬cond0_1 (grid1.coords t) → ¬cond0_2 (grid1.coords t) → cfg1.idle 5 (grid1.coords t) = true := by decide +kernel
/-- At the points of case A the pipeline does not write output 5's block back. -/
theorem noFlush0_5_A : ∀ t : Fin cfg1.N, cond0_0 (grid1.coords t) → ¬cond0_1 (grid1.coords t) → ¬cond0_2 (grid1.coords t) → (cfg1.win 5).flush t = false := by decide +kernel
/-- At the points of case B the printed configuration (`Cfg.idle`) calls output 5 idle: the case stores nothing into it. -/
theorem idleAt0_5_B : ∀ t : Fin cfg1.N, ¬cond0_0 (grid1.coords t) → cond0_1 (grid1.coords t) → ¬cond0_2 (grid1.coords t) → cfg1.idle 5 (grid1.coords t) = true := by decide +kernel
/-- At the points of case B the pipeline does not write output 5's block back. -/
theorem noFlush0_5_B : ∀ t : Fin cfg1.N, ¬cond0_0 (grid1.coords t) → cond0_1 (grid1.coords t) → ¬cond0_2 (grid1.coords t) → (cfg1.win 5).flush t = false := by decide +kernel
/-- At the points of case C the printed configuration (`Cfg.idle`) calls output 5 live: the case stores into it. -/
theorem liveAt0_5_C : ∀ t : Fin cfg1.N, ¬cond0_0 (grid1.coords t) → cond0_1 (grid1.coords t) → cond0_2 (grid1.coords t) → cfg1.idle 5 (grid1.coords t) = false := by decide +kernel

/-! ## The kernel body on any staging memrefs: a subtype the run finds -/

/-- One staging buffer of output window 5, through which its contents are stated (`View.read_writes_of_cover`: the
    choice does not matter). -/
abbrev VO0_5 : View sig .tc .vmem S512x1024 .bf16 := (Memref.whole cc1_stg5_0 : Memref sig .tc .vmem S512x1024 .bf16).view
/-- Each window's current staging memref at point `t`, spelled as the pipeline passes it (`bodyAt1`), and its wholeness. -/
abbrev ms0_0 (t : Fin cfg1.N) : Memref sig .tc .vmem S512x1152 .i8 := win1_0.stage (cfg1.slots t 0)
abbrev hs0_0 (t : Fin cfg1.N) : (ms0_0 t).IsWhole := hstage1_0 ((cfg1.slots t 0).cast nbuf1_0)
abbrev ms0_1 (t : Fin cfg1.N) : Memref sig .tc .vmem S512x1152 .i8 := win1_1.stage (cfg1.slots t 1)
abbrev hs0_1 (t : Fin cfg1.N) : (ms0_1 t).IsWhole := hstage1_1 ((cfg1.slots t 1).cast nbuf1_1)
abbrev ms0_2 (t : Fin cfg1.N) : Memref sig .tc .vmem S1152x1024 .i8 := win1_2.stage (cfg1.slots t 2)
abbrev hs0_2 (t : Fin cfg1.N) : (ms0_2 t).IsWhole := hstage1_2 ((cfg1.slots t 2).cast nbuf1_2)
abbrev ms0_3 (t : Fin cfg1.N) : Memref sig .tc .vmem S512x1 .f32 := win1_3.stage (cfg1.slots t 3)
abbrev hs0_3 (t : Fin cfg1.N) : (ms0_3 t).IsWhole := hstage1_3 ((cfg1.slots t 3).cast nbuf1_3)
abbrev ms0_4 (t : Fin cfg1.N) : Memref sig .tc .vmem S1x1024 .f32 := win1_4.stage (cfg1.slots t 4)
abbrev hs0_4 (t : Fin cfg1.N) : (ms0_4 t).IsWhole := hstage1_4 ((cfg1.slots t 4).cast nbuf1_4)
abbrev ms0_5 (t : Fin cfg1.N) : Memref sig .tc .vmem S512x1024 .bf16 := win1_5.stage (cfg1.slots t 5)
abbrev hs0_5 (t : Fin cfg1.N) : (ms0_5 t).IsWhole := hstage1_5 ((cfg1.slots t 5).cast nbuf1_5)
/-- The scratch operands: whole scoped buffers of the kernel's own, passed beside the windows. -/
abbrev scM0_0 : Memref sig .tc .vmem S512x1024 .f32 := Memref.whole cc1_scratch0
/-- The scratch `arg9` the kernel carries between points, as a view: what it holds is stated through it. -/
abbrev VS0_0 : View sig .tc .vmem S512x1024 .f32 := scM0_0.view

/-- What the region's invariant carries beside its own scratch: every other scoped buffer at some contents, and the generator
    register at some state. -/
def Oth (c : Dev nD) : sProp 𝕄 :=
  iprop(Pipeline.scopedRestBut (Ix := Unit) (Name := ℕ) (U := UR sig nD τ) (Lvl := ℕ) (Val := Elt F) spec1 c [cc1_scratch0] ∗ (∃ r, prngReg c r))

/-- The class's invariant with the kernel's own scratch owned at some contents and the rest unopened. -/
theorem PhiA0_eq (c : Dev nD) :
    (Pipeline.ΦA spec1 c : sProp 𝕄)
      = iprop(iprop((∃ d, owns (c : Thread nD τ) scM0_0 fullShare d)) ∗ Oth c) := by
  unfold Pipeline.ΦA Oth
  rw [Pipeline.scopedRest_split_of_list spec1 c [cc1_scratch0] (by decide) (by decide)]
  simp only [scM0_0, owns_whole]
  exact (Idealize.SL.BI.Entails.antisymm Idealize.SL.BI.sep_assoc Idealize.SL.BI.sep_assoc')

end Cert.Kernel.R1

end
-- ==== Proof.KernelR1RunA.lean ====
/- The body of the matrix-product region, run in case A. -/
module

public import proofs.«01_k».proof.Proof.KernelR1Runs

@[expose] public section

set_option maxRecDepth 16384

noncomputable section

namespace Cert.Kernel.R1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE A (`scf.if` 0 taken, `scf.if` 1 not taken, `scf.if` 2 not taken: points 0, 8, … 832: 105 of 840), WITH the
    proof that on whole staging memrefs — the inputs' at their contents, the outputs it leaves idle (5: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid1.Coords) (arg3 : Memref sig .tc .vmem S512x1152 .i8) (harg3 : arg3.IsWhole) (arg4 : Memref sig .tc .vmem S512x1152 .i8) (harg4 : arg4.IsWhole) (arg5 : Memref sig .tc .vmem S1152x1024 .i8) (harg5 : arg5.IsWhole) (arg6 : Memref sig .tc .vmem S512x1 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .f32) (harg9 : arg9.IsWhole) (hc0 : cond0_0 i) (hc1 : ¬cond0_1 i) (hc2 : ¬cond0_2 i)
    (x0 : Vec F S512x1152 .i8) (x1 : Vec F S512x1152 .i8) (x2 : Vec F S1152x1024 .i8) (x3 : Vec F S512x1 .f32) (x4 : Vec F S1x1024 .f32) :
    Σ' (L5 : List (View.Piece (Elt F) S512x1024 .bf16)), { LS0 : List (View.Piece (Elt F) S512x1024 .f32) //
      ∀ (xi5 : Vec F S512x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1_w4a8_gemm i arg3 harg3 arg4 harg4 arg5 harg5 arg6 harg6 arg7 harg7 arg8 harg8 arg9 harg9) K } := by
  refine ⟨[], ?_, fun xi5 E K => ?run⟩
  case run =>
    simp only [cc1_w4a8_gemm_eq_skeleton]; unfold cc1_w4a8_gemm_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.R1

end
-- ==== Proof.KernelR1RunB.lean ====
/- The body of the matrix-product region, run in case B. -/
module

public import proofs.«01_k».proof.Proof.KernelR1RunA

@[expose] public section

set_option maxRecDepth 16384

noncomputable section

namespace Cert.Kernel.R1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken: points 1, 2, … 838: 630 of 840), WITH the
    proof that on whole staging memrefs — the inputs' at their contents, the outputs it leaves idle (5: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid1.Coords) (arg3 : Memref sig .tc .vmem S512x1152 .i8) (harg3 : arg3.IsWhole) (arg4 : Memref sig .tc .vmem S512x1152 .i8) (harg4 : arg4.IsWhole) (arg5 : Memref sig .tc .vmem S1152x1024 .i8) (harg5 : arg5.IsWhole) (arg6 : Memref sig .tc .vmem S512x1 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .f32) (harg9 : arg9.IsWhole) (hc0 : ¬cond0_0 i) (hc1 : cond0_1 i) (hc2 : ¬cond0_2 i)
    (x0 : Vec F S512x1152 .i8) (x1 : Vec F S512x1152 .i8) (x2 : Vec F S1152x1024 .i8) (x3 : Vec F S512x1 .f32) (x4 : Vec F S1x1024 .f32) (xs0 : Vec F S512x1024 .f32) :
    Σ' (L5 : List (View.Piece (Elt F) S512x1024 .bf16)), { LS0 : List (View.Piece (Elt F) S512x1024 .f32) //
      ∀ (xi5 : Vec F S512x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1_w4a8_gemm i arg3 harg3 arg4 harg4 arg5 harg5 arg6 harg6 arg7 harg7 arg8 harg8 arg9 harg9) K } := by
  refine ⟨[], ?_, fun xi5 E K => ?run⟩
  case run =>
    simp only [cc1_w4a8_gemm_eq_skeleton]; unfold cc1_w4a8_gemm_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.R1

end
-- ==== Proof.KernelR1RunC.lean ====
/- The body of the matrix-product region, run in case C. -/
module

public import proofs.«01_k».proof.Proof.KernelR1RunB

@[expose] public section

set_option maxRecDepth 16384

noncomputable section

namespace Cert.Kernel.R1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE C (`scf.if` 0 not taken, `scf.if` 1 taken, `scf.if` 2 taken: points 7, 15, … 839: 105 of 840), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid1.Coords) (arg3 : Memref sig .tc .vmem S512x1152 .i8) (harg3 : arg3.IsWhole) (arg4 : Memref sig .tc .vmem S512x1152 .i8) (harg4 : arg4.IsWhole) (arg5 : Memref sig .tc .vmem S1152x1024 .i8) (harg5 : arg5.IsWhole) (arg6 : Memref sig .tc .vmem S512x1 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .f32) (harg9 : arg9.IsWhole) (hc0 : ¬cond0_0 i) (hc1 : cond0_1 i) (hc2 : cond0_2 i)
    (x0 : Vec F S512x1152 .i8) (x1 : Vec F S512x1152 .i8) (x2 : Vec F S1152x1024 .i8) (x3 : Vec F S512x1 .f32) (x4 : Vec F S1x1024 .f32) (xs0 : Vec F S512x1024 .f32) :
    Σ' (L5 : List (View.Piece (Elt F) S512x1024 .bf16)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc1_w4a8_gemm i arg3 harg3 arg4 harg4 arg5 harg5 arg6 harg6 arg7 harg7 arg8 harg8 arg9 harg9) K } := by
  refine ⟨?_, ?_, fun E K => ?run⟩
  case run =>
    simp only [cc1_w4a8_gemm_eq_skeleton]; unfold cc1_w4a8_gemm_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.Kernel.R1

end
-- ==== Proof.KernelR1Frame.lean ====
/- The proof data of the matrix-product region and its body obligation. -/
module

public import proofs.«01_k».proof.Proof.KernelR1RunC
public import Idealize.ShloMosaic.Lib.Claim

@[expose] public section

set_option maxRecDepth 16384

noncomputable section

namespace Cert.Kernel.R1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A stores nothing into output 5 (the window is idle at its points and not written back there):
    no pieces — a placeholder (junk read back) that nothing consults, since at these points the window is neither
    written back nor read at the next point (Lib/Pipeline.lean "Idle points"). -/
def out0_A_5 (c : Dev nD) (i : grid1.Coords) (arg3 : Memref sig .tc .vmem S512x1152 .i8) (harg3 : arg3.IsWhole) (arg4 : Memref sig .tc .vmem S512x1152 .i8) (harg4 : arg4.IsWhole) (arg5 : Memref sig .tc .vmem S1152x1024 .i8) (harg5 : arg5.IsWhole) (arg6 : Memref sig .tc .vmem S512x1 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .f32) (harg9 : arg9.IsWhole) (hc0 : cond0_0 i) (hc1 : ¬cond0_1 i) (hc2 : ¬cond0_2 i)
    (x0 : Vec F S512x1152 .i8) (x1 : Vec F S512x1152 .i8) (x2 : Vec F S1152x1024 .i8) (x3 : Vec F S512x1 .f32) (x4 : Vec F S1x1024 .f32) : Vec F S512x1024 .bf16 :=
  VO0_5.read (Elt F) (VO0_5.writes (Elt F) VO0_5.junk (kernelRun0_A c i arg3 harg3 arg4 harg4 arg5 harg5 arg6 harg6 arg7 harg7 arg8 harg8 arg9 harg9 hc0 hc1 hc2 x0 x1 x2 x3 x4).1)

/-- Case A's pieces for scratch `arg9`, which the kernel carries between points, cover it: 1 piece of `S512x1024` tiling it (Lib/Ring.lean `Piece.tiledL`). -/
theorem scover0_A_0 (c : Dev nD) (i : grid1.Coords) (arg3 : Memref sig .tc .vmem S512x1152 .i8) (harg3 : arg3.IsWhole) (arg4 : Memref sig .tc .vmem S512x1152 .i8) (harg4 : arg4.IsWhole) (arg5 : Memref sig .tc .vmem S1152x1024 .i8) (harg5 : arg5.IsWhole) (arg6 : Memref sig .tc .vmem S512x1 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .f32) (harg9 : arg9.IsWhole) (hc0 : cond0_0 i) (hc1 : ¬cond0_1 i) (hc2 : ¬cond0_2 i)
    (x0 : Vec F S512x1152 .i8) (x1 : Vec F S512x1152 .i8) (x2 : Vec F S1152x1024 .i8) (x3 : Vec F S512x1 .f32) (x4 : Vec F S1x1024 .f32) (y : S512x1024.Idx) :
    ∃ pc ∈ (kernelRun0_A c i arg3 harg3 arg4 harg4 arg5 harg5 arg6 harg6 arg7 harg7 arg8 harg8 arg9 harg9 hc0 hc1 hc2 x0 x1 x2 x3 x4).2.1, y ∈ pc.1.set :=
  View.cover_of_tiledL (kernelRun0_A c i arg3 harg3 arg4 harg4 arg5 harg5 arg6 harg6 arg7 harg7 arg8 harg8 arg9 harg9 hc0 hc1 hc2 x0 x1 x2 x3 x4).2.1 S512x1024.size (by sl_kernel_rfl) y

/-- What case A leaves in scratch `arg9`: its pieces read back over junk. -/
def sout0_A_0 (c : Dev nD) (i : grid1.Coords) (arg3 : Memref sig .tc .vmem S512x1152 .i8) (harg3 : arg3.IsWhole) (arg4 : Memref sig .tc .vmem S512x1152 .i8) (harg4 : arg4.IsWhole) (arg5 : Memref sig .tc .vmem S1152x1024 .i8) (harg5 : arg5.IsWhole) (arg6 : Memref sig .tc .vmem S512x1 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .f32) (harg9 : arg9.IsWhole) (hc0 : cond0_0 i) (hc1 : ¬cond0_1 i) (hc2 : ¬cond0_2 i)
    (x0 : Vec F S512x1152 .i8) (x1 : Vec F S512x1152 .i8) (x2 : Vec F S1152x1024 .i8) (x3 : Vec F S512x1 .f32) (x4 : Vec F S1x1024 .f32) : Vec F S512x1024 .f32 :=
  VS0_0.read (Elt F) (VS0_0.writes (Elt F) VS0_0.junk (kernelRun0_A c i arg3 harg3 arg4 harg4 arg5 harg5 arg6 harg6 arg7 harg7 arg8 harg8 arg9 harg9 hc0 hc1 hc2 x0 x1 x2 x3 x4).2.1)

/-- Case B stores nothing into output 5 (the window is idle at its points and not written back there):
    no pieces — a placeholder (junk read back) that nothing consults, since at these points the window is neither
    written back nor read at the next point (Lib/Pipeline.lean "Idle points"). -/
def out0_B_5 (c : Dev nD) (i : grid1.Coords) (arg3 : Memref sig .tc .vmem S512x1152 .i8) (harg3 : arg3.IsWhole) (arg4 : Memref sig .tc .vmem S512x1152 .i8) (harg4 : arg4.IsWhole) (arg5 : Memref sig .tc .vmem S1152x1024 .i8) (harg5 : arg5.IsWhole) (arg6 : Memref sig .tc .vmem S512x1 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .f32) (harg9 : arg9.IsWhole) (hc0 : ¬cond0_0 i) (hc1 : cond0_1 i) (hc2 : ¬cond0_2 i)
    (x0 : Vec F S512x1152 .i8) (x1 : Vec F S512x1152 .i8) (x2 : Vec F S1152x1024 .i8) (x3 : Vec F S512x1 .f32) (x4 : Vec F S1x1024 .f32) (xs0 : Vec F S512x1024 .f32) : Vec F S512x1024 .bf16 :=
  VO0_5.read (Elt F) (VO0_5.writes (Elt F) VO0_5.junk (kernelRun0_B c i arg3 harg3 arg4 harg4 arg5 harg5 arg6 harg6 arg7 harg7 arg8 harg8 arg9 harg9 hc0 hc1 hc2 x0 x1 x2 x3 x4 xs0).1)

/-- Case B's pieces for scratch `arg9`, which the kernel carries between points, cover it: 1 piece of `S512x1024` tiling it (Lib/Ring.lean `Piece.tiledL`). -/
theorem scover0_B_0 (c : Dev nD) (i : grid1.Coords) (arg3 : Memref sig .tc .vmem S512x1152 .i8) (harg3 : arg3.IsWhole) (arg4 : Memref sig .tc .vmem S512x1152 .i8) (harg4 : arg4.IsWhole) (arg5 : Memref sig .tc .vmem S1152x1024 .i8) (harg5 : arg5.IsWhole) (arg6 : Memref sig .tc .vmem S512x1 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .f32) (harg9 : arg9.IsWhole) (hc0 : ¬cond0_0 i) (hc1 : cond0_1 i) (hc2 : ¬cond0_2 i)
    (x0 : Vec F S512x1152 .i8) (x1 : Vec F S512x1152 .i8) (x2 : Vec F S1152x1024 .i8) (x3 : Vec F S512x1 .f32) (x4 : Vec F S1x1024 .f32) (xs0 : Vec F S512x1024 .f32) (y : S512x1024.Idx) :
    ∃ pc ∈ (kernelRun0_B c i arg3 harg3 arg4 harg4 arg5 harg5 arg6 harg6 arg7 harg7 arg8 harg8 arg9 harg9 hc0 hc1 hc2 x0 x1 x2 x3 x4 xs0).2.1, y ∈ pc.1.set :=
  View.cover_of_tiledL (kernelRun0_B c i arg3 harg3 arg4 harg4 arg5 harg5 arg6 harg6 arg7 harg7 arg8 harg8 arg9 harg9 hc0 hc1 hc2 x0 x1 x2 x3 x4 xs0).2.1 S512x1024.size (by sl_kernel_rfl) y

/-- What case B leaves in scratch `arg9`: its pieces read back over junk. -/
def sout0_B_0 (c : Dev nD) (i : grid1.Coords) (arg3 : Memref sig .tc .vmem S512x1152 .i8) (harg3 : arg3.IsWhole) (arg4 : Memref sig .tc .vmem S512x1152 .i8) (harg4 : arg4.IsWhole) (arg5 : Memref sig .tc .vmem S1152x1024 .i8) (harg5 : arg5.IsWhole) (arg6 : Memref sig .tc .vmem S512x1 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .f32) (harg9 : arg9.IsWhole) (hc0 : ¬cond0_0 i) (hc1 : cond0_1 i) (hc2 : ¬cond0_2 i)
    (x0 : Vec F S512x1152 .i8) (x1 : Vec F S512x1152 .i8) (x2 : Vec F S1152x1024 .i8) (x3 : Vec F S512x1 .f32) (x4 : Vec F S1x1024 .f32) (xs0 : Vec F S512x1024 .f32) : Vec F S512x1024 .f32 :=
  VS0_0.read (Elt F) (VS0_0.writes (Elt F) VS0_0.junk (kernelRun0_B c i arg3 harg3 arg4 harg4 arg5 harg5 arg6 harg6 arg7 harg7 arg8 harg8 arg9 harg9 hc0 hc1 hc2 x0 x1 x2 x3 x4 xs0).2.1)

/-- Case C's pieces for output 5 tile its block (1 store of `S512x1024`, checked by the kernel's evaluation: Lib/Ring.lean `Piece.tiledL`, linear in the pieces, through a loop's `@[irreducible]` trip theorem too), so they cover it. -/
theorem cover0_C_5 (c : Dev nD) (i : grid1.Coords) (arg3 : Memref sig .tc .vmem S512x1152 .i8) (harg3 : arg3.IsWhole) (arg4 : Memref sig .tc .vmem S512x1152 .i8) (harg4 : arg4.IsWhole) (arg5 : Memref sig .tc .vmem S1152x1024 .i8) (harg5 : arg5.IsWhole) (arg6 : Memref sig .tc .vmem S512x1 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .f32) (harg9 : arg9.IsWhole) (hc0 : ¬cond0_0 i) (hc1 : cond0_1 i) (hc2 : cond0_2 i)
    (x0 : Vec F S512x1152 .i8) (x1 : Vec F S512x1152 .i8) (x2 : Vec F S1152x1024 .i8) (x3 : Vec F S512x1 .f32) (x4 : Vec F S1x1024 .f32) (xs0 : Vec F S512x1024 .f32) (y : S512x1024.Idx) :
    ∃ pc ∈ (kernelRun0_C c i arg3 harg3 arg4 harg4 arg5 harg5 arg6 harg6 arg7 harg7 arg8 harg8 arg9 harg9 hc0 hc1 hc2 x0 x1 x2 x3 x4 xs0).1, y ∈ pc.1.set :=
  View.cover_of_tiledL (kernelRun0_C c i arg3 harg3 arg4 harg4 arg5 harg5 arg6 harg6 arg7 harg7 arg8 harg8 arg9 harg9 hc0 hc1 hc2 x0 x1 x2 x3 x4 xs0).1 S512x1024.size (by sl_kernel_rfl) y

/-- What case C leaves in output 5's staging buffer: its pieces read back over junk. -/
def out0_C_5 (c : Dev nD) (i : grid1.Coords) (arg3 : Memref sig .tc .vmem S512x1152 .i8) (harg3 : arg3.IsWhole) (arg4 : Memref sig .tc .vmem S512x1152 .i8) (harg4 : arg4.IsWhole) (arg5 : Memref sig .tc .vmem S1152x1024 .i8) (harg5 : arg5.IsWhole) (arg6 : Memref sig .tc .vmem S512x1 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .f32) (harg9 : arg9.IsWhole) (hc0 : ¬cond0_0 i) (hc1 : cond0_1 i) (hc2 : cond0_2 i)
    (x0 : Vec F S512x1152 .i8) (x1 : Vec F S512x1152 .i8) (x2 : Vec F S1152x1024 .i8) (x3 : Vec F S512x1 .f32) (x4 : Vec F S1x1024 .f32) (xs0 : Vec F S512x1024 .f32) : Vec F S512x1024 .bf16 :=
  VO0_5.read (Elt F) (VO0_5.writes (Elt F) VO0_5.junk (kernelRun0_C c i arg3 harg3 arg4 harg4 arg5 harg5 arg6 harg6 arg7 harg7 arg8 harg8 arg9 harg9 hc0 hc1 hc2 x0 x1 x2 x3 x4 xs0).1)

/-- Case C's pieces for scratch `arg9`, which the kernel carries between points, cover it: 1 piece of `S512x1024` tiling it (Lib/Ring.lean `Piece.tiledL`). -/
theorem scover0_C_0 (c : Dev nD) (i : grid1.Coords) (arg3 : Memref sig .tc .vmem S512x1152 .i8) (harg3 : arg3.IsWhole) (arg4 : Memref sig .tc .vmem S512x1152 .i8) (harg4 : arg4.IsWhole) (arg5 : Memref sig .tc .vmem S1152x1024 .i8) (harg5 : arg5.IsWhole) (arg6 : Memref sig .tc .vmem S512x1 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .f32) (harg9 : arg9.IsWhole) (hc0 : ¬cond0_0 i) (hc1 : cond0_1 i) (hc2 : cond0_2 i)
    (x0 : Vec F S512x1152 .i8) (x1 : Vec F S512x1152 .i8) (x2 : Vec F S1152x1024 .i8) (x3 : Vec F S512x1 .f32) (x4 : Vec F S1x1024 .f32) (xs0 : Vec F S512x1024 .f32) (y : S512x1024.Idx) :
    ∃ pc ∈ (kernelRun0_C c i arg3 harg3 arg4 harg4 arg5 harg5 arg6 harg6 arg7 harg7 arg8 harg8 arg9 harg9 hc0 hc1 hc2 x0 x1 x2 x3 x4 xs0).2.1, y ∈ pc.1.set :=
  View.cover_of_tiledL (kernelRun0_C c i arg3 harg3 arg4 harg4 arg5 harg5 arg6 harg6 arg7 harg7 arg8 harg8 arg9 harg9 hc0 hc1 hc2 x0 x1 x2 x3 x4 xs0).2.1 S512x1024.size (by sl_kernel_rfl) y

/-- What case C leaves in scratch `arg9`: its pieces read back over junk. -/
def sout0_C_0 (c : Dev nD) (i : grid1.Coords) (arg3 : Memref sig .tc .vmem S512x1152 .i8) (harg3 : arg3.IsWhole) (arg4 : Memref sig .tc .vmem S512x1152 .i8) (harg4 : arg4.IsWhole) (arg5 : Memref sig .tc .vmem S1152x1024 .i8) (harg5 : arg5.IsWhole) (arg6 : Memref sig .tc .vmem S512x1 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .f32) (harg9 : arg9.IsWhole) (hc0 : ¬cond0_0 i) (hc1 : cond0_1 i) (hc2 : cond0_2 i)
    (x0 : Vec F S512x1152 .i8) (x1 : Vec F S512x1152 .i8) (x2 : Vec F S1152x1024 .i8) (x3 : Vec F S512x1 .f32) (x4 : Vec F S1x1024 .f32) (xs0 : Vec F S512x1024 .f32) : Vec F S512x1024 .f32 :=
  VS0_0.read (Elt F) (VS0_0.writes (Elt F) VS0_0.junk (kernelRun0_C c i arg3 harg3 arg4 harg4 arg5 harg5 arg6 harg6 arg7 harg7 arg8 harg8 arg9 harg9 hc0 hc1 hc2 x0 x1 x2 x3 x4 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg1.N → Vec F S512x1024 .bf16 × Vec F S512x1024 .f32
  | 0, hn => (out0_A_5 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk V c 0 ⟨0, hn⟩) (iblk V c 1 ⟨0, hn⟩) (iblk V c 2 ⟨0, hn⟩) (iblk V c 3 ⟨0, hn⟩) (iblk V c 4 ⟨0, hn⟩), sout0_A_0 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk V c 0 ⟨0, hn⟩) (iblk V c 1 ⟨0, hn⟩) (iblk V c 2 ⟨0, hn⟩) (iblk V c 3 ⟨0, hn⟩) (iblk V c 4 ⟨0, hn⟩))
  | n + 1, hn =>
    if h0 : (n + 1) % 8 = 0 then
      if h1 : 1 ≤ (n + 1) % 8 then
        False.elim (by have hN : n + 1 < 840 := lt_of_lt_of_eq hn (show cfg1.N = 840 from N_1); omega)
      else
        if h2 : (n + 1) % 8 = 7 then
          False.elim (by have hN : n + 1 < 840 := lt_of_lt_of_eq hn (show cfg1.N = 840 from N_1); omega)
        else
          (out0_A_5 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩), sout0_A_0 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩))
    else
      if h1 : 1 ≤ (n + 1) % 8 then
        if h2 : (n + 1) % 8 = 7 then
          (out0_C_5 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt0 c n (Nat.lt_of_succ_lt hn)).2, sout0_C_0 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt0 c n (Nat.lt_of_succ_lt hn)).2)
        else
          (out0_B_5 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt0 c n (Nat.lt_of_succ_lt hn)).2, sout0_B_0 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt0 c n (Nat.lt_of_succ_lt hn)).2)
      else
        False.elim (by have hN : n + 1 < 840 := lt_of_lt_of_eq hn (show cfg1.N = 840 from N_1); omega)

/-- `outsAt0` at a point of case A: that case's contents. -/
theorem outsAt0_A (c : Dev nD) (t : Fin cfg1.N) (h0 : t.val % 8 = 0) (h1 : ¬1 ≤ t.val % 8) (h2 : ¬t.val % 8 = 7) :
    outsAt0 V c t.val t.isLt = (out0_A_5 c (grid1.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (fun h => h2 ((hcond0_2 t).mp h)) (iblk V c 0 t) (iblk V c 1 t) (iblk V c 2 t) (iblk V c 3 t) (iblk V c 4 t), sout0_A_0 c (grid1.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (fun h => h2 ((hcond0_2 t).mp h)) (iblk V c 0 t) (iblk V c 1 t) (iblk V c 2 t) (iblk V c 3 t) (iblk V c 4 t)) := by
  obtain ⟨n, hn⟩ := t
  cases n with
  | zero => exact rfl
  | succ n => exact (dif_pos h0).trans ((dif_neg h1).trans ((dif_neg h2).trans rfl))

/-- `outsAt0` at a point of case B: that case's contents, over what the point before left. -/
theorem outsAt0_B (c : Dev nD) (t : Fin cfg1.N) (h0 : ¬t.val % 8 = 0) (h1 : 1 ≤ t.val % 8) (h2 : ¬t.val % 8 = 7) :
    outsAt0 V c t.val t.isLt = (out0_B_5 c (grid1.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (fun h => h2 ((hcond0_2 t).mp h)) (iblk V c 0 t) (iblk V c 1 t) (iblk V c 2 t) (iblk V c 3 t) (iblk V c 4 t) (outsAt0 V c (t.val - 1) (Nat.lt_of_le_of_lt (Nat.sub_le _ _) t.isLt)).2, sout0_B_0 c (grid1.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (fun h => h2 ((hcond0_2 t).mp h)) (iblk V c 0 t) (iblk V c 1 t) (iblk V c 2 t) (iblk V c 3 t) (iblk V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg1.N) (h0 : ¬t.val % 8 = 0) (h1 : 1 ≤ t.val % 8) (h2 : t.val % 8 = 7) :
    outsAt0 V c t.val t.isLt = (out0_C_5 c (grid1.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) ((hcond0_2 t).mpr h2) (iblk V c 0 t) (iblk V c 1 t) (iblk V c 2 t) (iblk V c 3 t) (iblk V c 4 t) (outsAt0 V c (t.val - 1) (Nat.lt_of_le_of_lt (Nat.sub_le _ _) t.isLt)).2, sout0_C_0 c (grid1.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) ((hcond0_2 t).mpr h2) (iblk V c 0 t) (iblk V c 1 t) (iblk V c 2 t) (iblk V c 3 t) (iblk V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg1.N → sProp 𝕄
  | 0, _ => Pipeline.ΦA spec1 c
  | n + 1, hn => iprop(iprop(owns (c : Thread nD τ) scM0_0 fullShare ((outsAt0 V c n hn).2)) ∗ Oth c)

theorem PhiS_zero (c : Dev nD) (n : ℕ) (h : n ≤ cfg1.N) (hz : n = 0) : PhiS V c n h = Pipeline.ΦA spec1 c := by
  subst hz; rfl

/-- After point `n` (before point `n + 1`): the carried scratch at that point's contents. -/
theorem PhiS_succ (c : Dev nD) (n : ℕ) (hn : n < cfg1.N) :
    PhiS V c (n + 1) hn = iprop(iprop(owns (c : Thread nD τ) scM0_0 fullShare ((outsAt0 V c n hn).2)) ∗ Oth c) := rfl

/-- Before a point that is not the first: the carried scratch at what the point before left. -/
theorem PhiS_pos (c : Dev nD) (n : ℕ) (h : n ≤ cfg1.N) (hz : n ≠ 0) :
    PhiS V c n h = iprop(iprop(owns (c : Thread nD τ) scM0_0 fullShare ((outsAt0 V c (n - 1) (by omega)).2)) ∗ Oth c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt0 V c t.val t.isLt).1
  Φ t := PhiS V c t.val (Nat.le_of_lt_succ t.isLt)
  q w := Pipeline.shareOf spec1 w
  owed _ := 0

/-- The proof data's arrays are the region-entry contents: the proof data's definition projected (`dsimp`), so that
    `V` — a fold over @main's host prefix, long for some programs — is never unfolded to check it. -/
theorem A_eq (c : Dev nD) (w : Fin cfg1.W) : (dat V c).A w = V c (Pipeline.arrRef spec1 w) := by
  dsimp only [dat]

/-- The invariant at a point's start (the proof data at `t.castSucc`), restated at `t.val`. -/
theorem PhiS_castSucc (c : Dev nD) (t : Fin cfg1.N) :
    (dat V c).Φ t.castSucc = PhiS V c t.val (Nat.le_of_lt t.isLt) := by
  dsimp only [dat]; exact Pipeline.Dat.Φ_castSucc (PhiS V c) t

/-- What the body leaves, window by window (the proof data's `match` reduced by `dsimp`). -/
theorem after0_0 (c : Dev nD) (t : Fin cfg1.N) : (dat V c).after 0 t = iblk V c 0 t := by dsimp only [dat]
theorem after0_1 (c : Dev nD) (t : Fin cfg1.N) : (dat V c).after 1 t = iblk V c 1 t := by dsimp only [dat]
theorem after0_2 (c : Dev nD) (t : Fin cfg1.N) : (dat V c).after 2 t = iblk V c 2 t := by dsimp only [dat]
theorem after0_3 (c : Dev nD) (t : Fin cfg1.N) : (dat V c).after 3 t = iblk V c 3 t := by dsimp only [dat]
theorem after0_4 (c : Dev nD) (t : Fin cfg1.N) : (dat V c).after 4 t = iblk V c 4 t := by dsimp only [dat]
theorem after0_5 (c : Dev nD) (t : Fin cfg1.N) : (dat V c).after 5 t = (outsAt0 V c t.val t.isLt).1 := by dsimp only [dat]

/-- Each input's current staging buffer holds its block at every point, fetched there or not (`beforeK_W_of`). -/
theorem before0_0 (c : Dev nD) (t : Fin cfg1.N) (d) : (dat V c).before 0 t d = iblk V c 0 t :=
  before0_0_of V (dat V c) (A_eq V c 0) (after0_0 V c) t d
theorem before0_1 (c : Dev nD) (t : Fin cfg1.N) (d) : (dat V c).before 1 t d = iblk V c 1 t :=
  before0_1_of V (dat V c) (A_eq V c 1) (after0_1 V c) t d
theorem before0_2 (c : Dev nD) (t : Fin cfg1.N) (d) : (dat V c).before 2 t d = iblk V c 2 t :=
  before0_2_of V (dat V c) (A_eq V c 2) (after0_2 V c) t d
theorem before0_3 (c : Dev nD) (t : Fin cfg1.N) (d) : (dat V c).before 3 t d = iblk V c 3 t :=
  before0_3_of V (dat V c) (A_eq V c 3) (after0_3 V c) t d
theorem before0_4 (c : Dev nD) (t : Fin cfg1.N) (d) : (dat V c).before 4 t d = iblk V c 4 t :=
  before0_4_of V (dat V c) (A_eq V c 4) (after0_4 V c) t d

/-! ## The body obligation, at a generic point -/

/-- What the body is called with at point `t` (Lib/Pipeline.lean `BodyObligation`'s precondition, the windows one by one), -/
def bodyPre (c : Dev nD) (t : Fin cfg1.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d))
    ∗ (∃ d, owns (c : Thread nD τ) (ms0_5 t) fullShare ((dat V c).before 5 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0_0, before0_1, before0_2, before0_3, before0_4]
  rw [show (dat V c).owesAt () t.succ = (dat V c).owesAt () t.castSucc from rfl]
  rw [show (dat V c).Φ t.succ = PhiS V c (t.val + 1) t.isLt from rfl, PhiS_succ]
  have hN : t.val < 840 := lt_of_lt_of_eq t.isLt (show cfg1.N = 840 from N_1)
  by_cases h0 : t.val % 8 = 0
  · by_cases h1 : 1 ≤ t.val % 8
    · exfalso; omega
    · by_cases h2 : t.val % 8 = 7
      · exfalso; omega
      · rw [show (dat V c).leavesExact 0 t = owns (c : Thread nD τ) (ms0_0 t) fullShare ((dat V c).after 0 t) from by
      unfold Dat.leavesExact; rw [liveAt0_0 t], after0_0]
        rw [show (dat V c).leavesExact 1 t = owns (c : Thread nD τ) (ms0_1 t) fullShare ((dat V c).after 1 t) from by
      unfold Dat.leavesExact; rw [liveAt0_1 t], after0_1]
        rw [show (dat V c).leavesExact 2 t = owns (c : Thread nD τ) (ms0_2 t) fullShare ((dat V c).after 2 t) from by
      unfold Dat.leavesExact; rw [liveAt0_2 t], after0_2]
        rw [show (dat V c).leavesExact 3 t = owns (c : Thread nD τ) (ms0_3 t) fullShare ((dat V c).after 3 t) from by
      unfold Dat.leavesExact; rw [liveAt0_3 t], after0_3]
        rw [show (dat V c).leavesExact 4 t = owns (c : Thread nD τ) (ms0_4 t) fullShare ((dat V c).after 4 t) from by
      unfold Dat.leavesExact; rw [liveAt0_4 t], after0_4]
        rw [Dat.leavesExact_idle (dat V c) 5 t (idleAt0_5_A t ((hcond0_0 t).mpr h0) (fun h => h1 ((hcond0_1 t).mp h)) (fun h => h2 ((hcond0_2 t).mp h))) (noFlush0_5_A t ((hcond0_0 t).mpr h0) (fun h => h1 ((hcond0_1 t).mp h)) (fun h => h2 ((hcond0_2 t).mp h)))]
        by_cases hz : t.val = 0
        · rw [PhiS_castSucc V c t, PhiS_zero V c _ _ hz, PhiA0_eq]
          rw [outsAt0_A V c t h0 h1 h2]
          unfold sout0_A_0; (try dsimp only)
          iintro ⟨⟨HS0, Hg⟩, Ho, ⟨%d0, H0⟩, ⟨%d1, H1⟩, ⟨%d2, H2⟩, ⟨%d3, H3⟩, ⟨%d4, H4⟩, ⟨%d5, H5⟩⟩
          iapply ((kernelRun0_A c (grid1.coords t) _ _ _ _ _ _ _ _ _ _ _ _ _ _ ((hcond0_0 t).mpr h0) (fun h => h1 ((hcond0_1 t).mp h)) (fun h => h2 ((hcond0_2 t).mp h)) (iblk V c 0 t) (iblk V c 1 t) (iblk V c 2 t) (iblk V c 3 t) (iblk V c 4 t)).2.2 _ Set.univ _)
          isplitl [H0]; · iexact H0
          isplitl [H1]; · iexact H1
          isplitl [H2]; · iexact H2
          isplitl [H3]; · iexact H3
          isplitl [H4]; · iexact H4
          isplitl [H5]; · iexact H5
          isplitl [HS0]; · iexact HS0
          iintro ⟨H0, H1, H2, H3, H4, H5, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          iexists _; iexact H5
        · rw [PhiS_castSucc V c t, PhiS_pos V c _ _ hz]
          rw [outsAt0_A V c t h0 h1 h2]
          unfold sout0_A_0; (try dsimp only)
          iintro ⟨⟨HS0, Hg⟩, Ho, ⟨%d0, H0⟩, ⟨%d1, H1⟩, ⟨%d2, H2⟩, ⟨%d3, H3⟩, ⟨%d4, H4⟩, ⟨%d5, H5⟩⟩
          iapply ((kernelRun0_A c (grid1.coords t) _ _ _ _ _ _ _ _ _ _ _ _ _ _ ((hcond0_0 t).mpr h0) (fun h => h1 ((hcond0_1 t).mp h)) (fun h => h2 ((hcond0_2 t).mp h)) (iblk V c 0 t) (iblk V c 1 t) (iblk V c 2 t) (iblk V c 3 t) (iblk V c 4 t)).2.2 _ Set.univ _)
          isplitl [H0]; · iexact H0
          isplitl [H1]; · iexact H1
          isplitl [H2]; · iexact H2
          isplitl [H3]; · iexact H3
          isplitl [H4]; · iexact H4
          isplitl [H5]; · iexact H5
          isplitl [HS0]; · iexists _; iexact HS0
          iintro ⟨H0, H1, H2, H3, H4, H5, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          iexists _; iexact H5
  · by_cases h1 : 1 ≤ t.val % 8
    · by_cases h2 : t.val % 8 = 7
      · rw [show (dat V c).leavesExact 0 t = owns (c : Thread nD τ) (ms0_0 t) fullShare ((dat V c).after 0 t) from by
      unfold Dat.leavesExact; rw [liveAt0_0 t], after0_0]
        rw [show (dat V c).leavesExact 1 t = owns (c : Thread nD τ) (ms0_1 t) fullShare ((dat V c).after 1 t) from by
      unfold Dat.leavesExact; rw [liveAt0_1 t], after0_1]
        rw [show (dat V c).leavesExact 2 t = owns (c : Thread nD τ) (ms0_2 t) fullShare ((dat V c).after 2 t) from by
      unfold Dat.leavesExact; rw [liveAt0_2 t], after0_2]
        rw [show (dat V c).leavesExact 3 t = owns (c : Thread nD τ) (ms0_3 t) fullShare ((dat V c).after 3 t) from by
      unfold Dat.leavesExact; rw [liveAt0_3 t], after0_3]
        rw [show (dat V c).leavesExact 4 t = owns (c : Thread nD τ) (ms0_4 t) fullShare ((dat V c).after 4 t) from by
      unfold Dat.leavesExact; rw [liveAt0_4 t], after0_4]
        rw [show (dat V c).leavesExact 5 t = owns (c : Thread nD τ) (ms0_5 t) fullShare ((dat V c).after 5 t) from by
      unfold Dat.leavesExact; rw [liveAt0_5_C t (fun h => h0 ((hcond0_0 t).mp h)) ((hcond0_1 t).mpr h1) ((hcond0_2 t).mpr h2)], after0_5]
        by_cases hz : t.val = 0
        · exfalso; have hN : t.val < 840 := lt_of_lt_of_eq t.isLt (show cfg1.N = 840 from N_1); omega
        · rw [PhiS_castSucc V c t, PhiS_pos V c _ _ hz]
          rw [outsAt0_C V c t h0 h1 h2]
          unfold out0_C_5 sout0_C_0; (try dsimp only)
          iintro ⟨⟨HS0, Hg⟩, Ho, ⟨%d0, H0⟩, ⟨%d1, H1⟩, ⟨%d2, H2⟩, ⟨%d3, H3⟩, ⟨%d4, H4⟩, ⟨%d5, H5⟩⟩
          iapply ((kernelRun0_C c (grid1.coords t) _ _ _ _ _ _ _ _ _ _ _ _ _ _ (fun h => h0 ((hcond0_0 t).mp h)) ((hcond0_1 t).mpr h1) ((hcond0_2 t).mpr h2) (iblk V c 0 t) (iblk V c 1 t) (iblk V c 2 t) (iblk V c 3 t) (iblk V c 4 t) _).2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          iintro ⟨H0, H1, H2, H3, H4, ⟨%e5, H5⟩, ⟨%es0, HS0⟩⟩
          isplitl [HS0 Hg]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          unfold owns; iexists _; isplitr
          swap; · iexact H5
          ipureintro; exact View.read_writes_of_cover _ _ _ _ _ (cover0_C_5 c _ _ _ _ _ _ _ _ _ _ _ _ _ _ _ _ _ _ _ _ _ _ _ _)
      · rw [show (dat V c).leavesExact 0 t = owns (c : Thread nD τ) (ms0_0 t) fullShare ((dat V c).after 0 t) from by
      unfold Dat.leavesExact; rw [liveAt0_0 t], after0_0]
        rw [show (dat V c).leavesExact 1 t = owns (c : Thread nD τ) (ms0_1 t) fullShare ((dat V c).after 1 t) from by
      unfold Dat.leavesExact; rw [liveAt0_1 t], after0_1]
        rw [show (dat V c).leavesExact 2 t = owns (c : Thread nD τ) (ms0_2 t) fullShare ((dat V c).after 2 t) from by
      unfold Dat.leavesExact; rw [liveAt0_2 t], after0_2]
        rw [show (dat V c).leavesExact 3 t = owns (c : Thread nD τ) (ms0_3 t) fullShare ((dat V c).after 3 t) from by
      unfold Dat.leavesExact; rw [liveAt0_3 t], after0_3]
        rw [show (dat V c).leavesExact 4 t = owns (c : Thread nD τ) (ms0_4 t) fullShare ((dat V c).after 4 t) from by
      unfold Dat.leavesExact; rw [liveAt0_4 t], after0_4]
        rw [Dat.leavesExact_idle (dat V c) 5 t (idleAt0_5_B t (fun h => h0 ((hcond0_0 t).mp h)) ((hcond0_1 t).mpr h1) (fun h => h2 ((hcond0_2 t).mp h))) (noFlush0_5_B t (fun h => h0 ((hcond0_0 t).mp h)) ((hcond0_1 t).mpr h1) (fun h => h2 ((hcond0_2 t).mp h)))]
        by_cases hz : t.val = 0
        · exfalso; have hN : t.val < 840 := lt_of_lt_of_eq t.isLt (show cfg1.N = 840 from N_1); omega
        · rw [PhiS_castSucc V c t, PhiS_pos V c _ _ hz]
          rw [outsAt0_B V c t h0 h1 h2]
          unfold sout0_B_0; (try dsimp only)
          iintro ⟨⟨HS0, Hg⟩, Ho, ⟨%d0, H0⟩, ⟨%d1, H1⟩, ⟨%d2, H2⟩, ⟨%d3, H3⟩, ⟨%d4, H4⟩, ⟨%d5, H5⟩⟩
          iapply ((kernelRun0_B c (grid1.coords t) _ _ _ _ _ _ _ _ _ _ _ _ _ _ (fun h => h0 ((hcond0_0 t).mp h)) ((hcond0_1 t).mpr h1) (fun h => h2 ((hcond0_2 t).mp h)) (iblk V c 0 t) (iblk V c 1 t) (iblk V c 2 t) (iblk V c 3 t) (iblk V c 4 t) _).2.2 _ Set.univ _)
          isplitl [H0]; · iexact H0
          isplitl [H1]; · iexact H1
          isplitl [H2]; · iexact H2
          isplitl [H3]; · iexact H3
          isplitl [H4]; · iexact H4
          isplitl [H5]; · iexact H5
          isplitl [HS0]; · iexact HS0
          iintro ⟨H0, H1, H2, H3, H4, H5, ⟨%es0, HS0⟩⟩
          isplitl [HS0 Hg]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          iexists _; iexact H5
    · exfalso; omega

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

/-- What the launch hands the region (`ΦA`) is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA0_eq]
  iintro ⟨HS0, Hg⟩
  isplitl [HS0]
  · iexists _; iexact HS0
  iexact Hg

/-- The same after the last point. -/
theorem hout (c : Dev nD) : (dat V c).Φ (Fin.last cfg1.N) ⊢ Pipeline.ΦA spec1 c :=
  Phi_out V c _ (by rw [Fin.val_last]; have : cfg1.N = 840 := N_1; omega)

end Cert.Kernel.R1

end
-- ==== Proof.KernelLaunch.lean ====
/- The launch of the two kernel calls: the records of both regions, and what every final state holds. -/
module

public import proofs.«01_k».proof.Proof.Gen.Kernel.Regions
public import proofs.«01_k».proof.Proof.KernelR0Frame
public import proofs.«01_k».proof.Proof.KernelR1Frame
public import Idealize.ShloMosaic.Lib.Pipeline.RegionArrays
public import Idealize.ShloMosaic.Lib.Pipeline.RegionsLoop
public import Idealize.ShloMosaic.Lib.Pipeline.Kit

@[expose] public section

set_option maxRecDepth 16384

noncomputable section

namespace Cert.Kernel.Launch

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## What the two calls leave -/

/-- The buffers the first call is entered with. -/
abbrev W1 (c : Dev nD) (b : Ref sig .tc) : Buf (Elt F) ((c : Thread nD τ).loc b) := V1 m c b
/-- The buffers the second call is entered with. -/
abbrev W3 (outs : Outs (F := F)) (c : Dev nD) (b : Ref sig .tc) : Buf (Elt F) ((c : Thread nD τ).loc b) := V3 m outs c b

/-- What the first call leaves: its two result arrays after every write-back; anything else is left alone. -/
def outs1 : Outs (F := F) := fun _ r c =>
  if h : r = main_v1_0 then h ▸ (R0.dat (W1 m) c).arrAt 2 cfg0.N
  else if h : r = main_v1_1 then h ▸ (R0.dat (W1 m) c).arrAt 3 cfg0.N
  else V1 m c r

/-- What each call leaves. -/
def outs : Outs (F := F) := fun J r c =>
  if J = 2 then outs1 m J r c
  else if h : r = main_v3 then h ▸ (R1.dat (W3 m (outs1 m)) c).arrAt 5 cfg1.N
  else V1 m c r

theorem outs_2 (r : Ref sig .tc) (c : Dev nD) : outs m 2 r c = outs1 m 2 r c := by
  unfold outs; rw [if_pos rfl]

theorem outs_2_0 (c : Dev nD) : outs m 2 main_v1_0 c = (R0.dat (W1 m) c).arrAt 2 cfg0.N := by
  rw [outs_2]; unfold outs1; rw [dif_pos rfl]

theorem outs_2_1 (c : Dev nD) : outs m 2 main_v1_1 c = (R0.dat (W1 m) c).arrAt 3 cfg0.N := by
  rw [outs_2]; unfold outs1; rw [dif_neg (by decide), dif_pos rfl]

/-- The second call is entered from what the first one and the host stretch between leave. -/
theorem V3_outs (c : Dev nD) : V3 m (outs m) c = V3 m (outs1 m) c := by
  unfold V3 V2; rw [outs_2, outs_2]

theorem outs_4 (c : Dev nD) : outs m 4 main_v3 c = (R1.dat (W3 m (outs m)) c).arrAt 5 cfg1.N := by
  rw [show W3 m (outs m) = W3 m (outs1 m) from by funext c b; unfold W3; rw [V3_outs]]
  unfold outs; rw [if_neg (by decide), dif_pos rfl]

/-! ## The two regions -/

/-- The proof data of both calls. -/
def pdats : (p : Fin 2) → (c : Dev nD) → Dat τ (Elt F) Unit ℕ (UR sig nD τ) ℕ (cfgs p) c
  | 0 => R0.dat (W1 m)
  | 1 => R1.dat (W3 m (outs m))

/-- Beside the buffers a core holds its generator register and owes nothing. -/
abbrev E : Fin 3 → Dev nD → sProp 𝕄 := fun _ c =>
  iprop((∃ r, prngReg c r) ∗ ∃ W, owes (c : Thread nD τ) (0 : CellTallies nD τ sig Unit) W)

abbrev L : GSem nD τ sig → Finset Unit := fun _ => ∅
abbrev lv : GSem nD τ sig → Unit → ℕ := fun _ _ => 0

/-- The core's `owes` as a pipeline point's. -/
theorem owesAt_intro {cfg : Pipeline.Cfg sig Λ₀} {c : Dev nD} (dat : Dat τ (Elt F) Unit ℕ (UR sig nD τ) ℕ cfg c) (t : Fin (cfg.N + 1))
    (h0 : dat.owed t = 0) (hr : dat.recorded t = Set.univ) :
    iprop(∃ W, owes (c : Thread nD τ) (0 : CellTallies nD τ sig Unit) W) ⊢ (dat.owesAt () t : sProp 𝕄) := by
  unfold Pipeline.Dat.owesAt Pipeline.owesWithin Pipeline.Dat.bound; rw [h0, hr]
  iintro ⟨%W, HO⟩; iexists W; isplitr; · ipureintro; exact fun _ _ => Or.inl trivial
  iexact HO

theorem owesAt_elim {cfg : Pipeline.Cfg sig Λ₀} {c : Dev nD} (dat : Dat τ (Elt F) Unit ℕ (UR sig nD τ) ℕ cfg c) (t : Fin (cfg.N + 1))
    (h0 : dat.owed t = 0) :
    (dat.owesAt () t : sProp 𝕄) ⊢ iprop(∃ W, owes (c : Thread nD τ) (0 : CellTallies nD τ sig Unit) W) := by
  unfold Pipeline.Dat.owesAt Pipeline.owesWithin; rw [h0]
  iintro ⟨%W, -, HO⟩; iexists W; iexact HO

theorem arrays0_entry (c : Dev nD) : (StableHlo.held (c : Thread nD τ) (Pipeline.ucRefs τ sig) (V1 m c) : sProp 𝕄)
    ⊢ iprop((pdats m 0 c).arrays ((pdats m 0 c).arrAt · 0) ∗ Pipeline.unscopedRest spec0 c (fun b => V1 m c b)) := by
  rw [← Pipeline.unscopedBufs_held]
  exact Pipeline.arrays_of_unscopedBufs (pcfgs (F := F)) adm (pdats m) (p := 0) winFacts0 arr_whole0 c
    (fun w => (pdats m 0 c).share_full (fun _ => rfl) w) (fun b => V1 m c b) (fun w => R0.A_eq (W1 m) c w)

/-- An operand of the first call ends as the call found it. -/
theorem arr_in0 (c : Dev nD) (w : Fin 4) (h : (cfg0.win w).isOut = false) :
    (pdats m 0 c).arrAt w cfg0.N = V1 m c (Pipeline.arrRef spec0 w) :=
  ((pdats m 0 c).arrAt_in w h _).trans (R0.A_eq (W1 m) c w)

theorem arrays0_exit (c : Dev nD) :
    iprop((pdats m 0 c).arrays ((pdats m 0 c).arrAt · cfg0.N) ∗ Pipeline.unscopedRest spec0 c (fun b => V1 m c b))
      ⊢ (StableHlo.held (c : Thread nD τ) (Pipeline.ucRefs τ sig) (V2 m (outs m) c) : sProp 𝕄) := by
  rw [← Pipeline.unscopedBufs_held]
  refine Pipeline.unscopedBufs_of_arrays (pcfgs (F := F)) adm (p := 0) winFacts0 arr_whole0 c (pdats m)
    (fun w => (pdats m 0 c).share_full (fun _ => rfl) w) (fun b => V1 m c b) (fun b => V2 m (outs m) c b) _ (fun w => ?_) (fun b hb => ?_)
  · fin_cases w
    · exact (arr_in0 m c 0 rfl).trans (V2_of m (outs m) c main_v0 (by decide)).symm
    · exact (arr_in0 m c 1 rfl).trans (V2_of m (outs m) c main_cst (by decide)).symm
    · exact (show _ = V2 m (outs m) c main_v1_0 from by
        unfold V2
        rw [Function.update_of_ne (StableHlo.devRef_ne_of_ne (by decide)), Function.update_self, outs_2_0]; rfl)
    · exact (show _ = V2 m (outs m) c main_v1_1 from by
        unfold V2
        rw [Function.update_self, outs_2_1]; rfl)
  · refine V2_of m (outs m) c b fun h => hb ?_
    rcases List.mem_cons.mp h with rfl | h
    · exact Finset.mem_image.mpr ⟨2, Finset.mem_univ _, rfl⟩
    · rcases List.mem_cons.mp h with rfl | h
      · exact Finset.mem_image.mpr ⟨3, Finset.mem_univ _, rfl⟩
      · exact absurd h List.not_mem_nil

theorem arrays1_entry (c : Dev nD) : (StableHlo.held (c : Thread nD τ) (Pipeline.ucRefs τ sig) (V3 m (outs m) c) : sProp 𝕄)
    ⊢ iprop((pdats m 1 c).arrays ((pdats m 1 c).arrAt · 0) ∗ Pipeline.unscopedRest spec1 c (fun b => V3 m (outs m) c b)) := by
  rw [← Pipeline.unscopedBufs_held]
  exact Pipeline.arrays_of_unscopedBufs_shared (pcfgs (F := F)) adm (pdats m) (p := 1) winFacts₀1 sharedIn1 arr_whole1 c
    (fun w _ => rfl) (fun b => V3 m (outs m) c b) (fun w => R1.A_eq (W3 m (outs m)) c w)

/-- An operand of the second call ends as the call found it. -/
theorem arr_in1 (c : Dev nD) (w : Fin 6) (h : (cfg1.win w).isOut = false) :
    (pdats m 1 c).arrAt w cfg1.N = V3 m (outs m) c (Pipeline.arrRef spec1 w) :=
  ((pdats m 1 c).arrAt_in w h _).trans (R1.A_eq (W3 m (outs m)) c w)

theorem arrays1_exit (c : Dev nD) :
    iprop((pdats m 1 c).arrays ((pdats m 1 c).arrAt · cfg1.N) ∗ Pipeline.unscopedRest spec1 c (fun b => V3 m (outs m) c b))
      ⊢ (StableHlo.held (c : Thread nD τ) (Pipeline.ucRefs τ sig) (V4 m (outs m) c) : sProp 𝕄) := by
  rw [← Pipeline.unscopedBufs_held]
  refine Pipeline.unscopedBufs_of_arrays_shared (pcfgs (F := F)) adm (p := 1) winFacts₀1 sharedIn1 arr_whole1 c (pdats m)
    (fun w _ => rfl) (fun b => V3 m (outs m) c b) (fun b => V4 m (outs m) c b) _ (fun w => ?_) (fun b hb => ?_)
  · fin_cases w
    · exact (arr_in1 m c 0 rfl).trans (V4_of m (outs m) c main_v1_0 (by decide)).symm
    · exact (arr_in1 m c 1 rfl).trans (V4_of m (outs m) c main_v1_0 (by decide)).symm
    · exact (arr_in1 m c 2 rfl).trans (V4_of m (outs m) c main_arg1 (by decide)).symm
    · exact (arr_in1 m c 3 rfl).trans (V4_of m (outs m) c main_v1_1 (by decide)).symm
    · exact (arr_in1 m c 4 rfl).trans (V4_of m (outs m) c main_v2 (by decide)).symm
    · exact (show _ = V4 m (outs m) c main_v3 from by
        unfold V4
        rw [Function.update_self, outs_4]; rfl)
  · refine V4_of m (outs m) c b fun h => hb ?_
    rcases List.mem_cons.mp h with rfl | h
    · exact Finset.mem_image.mpr ⟨5, Finset.mem_univ _, rfl⟩
    · exact absurd h List.not_mem_nil

/-- The first call's region, from every buffer held at `V1` to every buffer held at `V2`. -/
def reg0 : RegionSeg (pcfgs (F := F)) adm (pdats m) () defs₀ Variants.none L lv 0 where
  win := winFacts0.to₀
  block_pos := block_pos0
  stage_whole := stage_whole0
  K := PEmpty
  osem k := k.elim
  ho := Pipeline.OwnSemFacts.none _
  hbody c := (R0.body_obligation _ c).loose
  hwaits := Pipeline.hwaits_of_owed_zero _ _ _ _ L lv 0 fun _ _ => rfl
  pre c := iprop(StableHlo.held (c : Thread nD τ) (Pipeline.ucRefs τ sig) (V1 m c) ∗ E 0 c)
  post c := iprop(StableHlo.held (c : Thread nD τ) (Pipeline.ucRefs τ sig) (V2 m (outs m) c) ∗ E 1 c)
  X c := iprop(∃ r, prngReg c r)
  Y c := iprop(∃ r, prngReg c r)
  Z c := Pipeline.unscopedRest spec0 c (fun b => V1 m c b)
  hentry c := by
    rw [Pipeline.ownSems0_none, Pipeline.prefHeld_of_none _ rfl]
    iintro ⟨⟨Hh, Hp, HO⟩, -, -⟩
    ihave Ha := (arrays0_entry m c) $$ Hh
    icases Ha with ⟨Ha, HZ⟩
    imodintro
    isplitl [Ha]; · iexact Ha
    isplitr; · iempintro
    isplitl [HO]; · iapply (owesAt_intro (pdats m 0 c) 0 rfl rfl); iexact HO
    isplitl [Hp]; · iexact Hp
    iexact HZ
  hin c := by
    rw [show (pdats m 0 c).Φ 0 = Pipeline.ΦA spec0 c from rfl]
    unfold Pipeline.ΦA
    iintro ⟨HX, -, Hr⟩
    isplitl [Hr]; · iexact Hr
    iexact HX
  hout c := by
    rw [show (pdats m 0 c).Φ (Fin.last _) = Pipeline.ΦA spec0 c from rfl, Pipeline.ownSems0_none]
    unfold Pipeline.ΦA
    iintro ⟨Hr, HY⟩
    isplitl [HY]; · iexact HY
    isplitr; · iempintro
    iexact Hr
  hexit c := by
    iintro ⟨Ha, HO, HY, HZ⟩
    imodintro
    isplitl [Ha HZ]
    · iapply (arrays0_exit m c)
      isplitl [Ha]; · iexact Ha
      iexact HZ
    isplitl [HY]; · iexact HY
    iapply (owesAt_elim (pdats m 0 c) _ rfl); iexact HO

/-- The second call's region, from every buffer held at `V3` to every buffer held at `V4`. -/
def reg1 : RegionSeg (pcfgs (F := F)) adm (pdats m) () defs₀ Variants.none L lv 1 where
  win := winFacts₀1
  block_pos := block_pos1
  stage_whole := stage_whole1
  K := PEmpty
  osem k := k.elim
  ho := Pipeline.OwnSemFacts.none _
  hbody c := (R1.body_obligation _ c).loose
  hwaits := Pipeline.hwaits_of_owed_zero _ _ _ _ L lv 1 fun _ _ => rfl
  pre c := iprop(StableHlo.held (c : Thread nD τ) (Pipeline.ucRefs τ sig) (V3 m (outs m) c) ∗ E 1 c)
  post c := iprop(StableHlo.held (c : Thread nD τ) (Pipeline.ucRefs τ sig) (V4 m (outs m) c) ∗ E 2 c)
  X c := iprop(∃ r, prngReg c r)
  Y c := iprop(∃ r, prngReg c r)
  Z c := Pipeline.unscopedRest spec1 c (fun b => V3 m (outs m) c b)
  hentry c := by
    rw [Pipeline.ownSems0_none, Pipeline.prefHeld_of_none _ rfl]
    iintro ⟨⟨Hh, Hp, HO⟩, -, -⟩
    ihave Ha := (arrays1_entry m c) $$ Hh
    icases Ha with ⟨Ha, HZ⟩
    imodintro
    isplitl [Ha]; · iexact Ha
    isplitr; · iempintro
    isplitl [HO]; · iapply (owesAt_intro (pdats m 1 c) 0 rfl rfl); iexact HO
    isplitl [Hp]; · iexact Hp
    iexact HZ
  hin c := by
    refine BIBase.Entails.trans ?_ (R1.hin (W3 m (outs m)) c)
    unfold Pipeline.ΦA
    iintro ⟨HX, -, Hr⟩
    isplitl [Hr]; · iexact Hr
    iexact HX
  hout c := by
    refine (R1.hout (W3 m (outs m)) c).trans ?_
    rw [Pipeline.ownSems0_none]
    unfold Pipeline.ΦA
    iintro ⟨Hr, HY⟩
    isplitl [HY]; · iexact HY
    isplitr; · iempintro
    iexact Hr
  hexit c := by
    iintro ⟨Ha, HO, HY, HZ⟩
    imodintro
    isplitl [Ha HZ]
    · iapply (arrays1_exit m c)
      isplitl [Ha]; · iexact Ha
      iexact HZ
    isplitl [HY]; · iexact HY
    iapply (owesAt_elim (pdats m 1 c) _ rfl); iexact HO

/-! ## The run -/

-- the implicit arguments are found by unifying the conclusions, which takes unfolding plain definitions
set_option backward.isDefEq.respectTransparency.types false in
/-- Every weakly fair execution from zero counters terminates, each argument ends as launched, each result is read off
    the last contents `V5`, and every counter ends at zero. -/
theorem run (ρ : Dev nD → PrngReg) :
    θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ (r.2.mem ((c.tc : Thread nD τ).loc main_v4) = V5 m (outs m) c main_v4
      ∧ r.2.mem ((c.tc : Thread nD τ).loc main_v5) = V5 m (outs m) c main_v5
      ∧ r.2.mem ((c.tc : Thread nD τ).loc main_v6) = V5 m (outs m) c main_v6))
      ∧ r.2.sem = fun _ => 0) := by
  refine Pipeline.θ_run_regions_kit_dev_sems (pcfgs (F := F)) adm (pdats m) () cellOf_inj emb₁ defs₀ Variants.none L lv m ρ main
    (segs m (outs m) Variants.none L lv E () (pdats m) (reg0 m) (reg1 m))
    (fun c Q => by
      rewrite [main_chain c, Seg.run_eq_chain,
        show (segs m (outs m) Variants.none L lv E () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0) (fun _ _ => rfl)
    (fun _ => iprop(emp)) (initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V5 m (outs m) c))
    (hch := fun c => ⟨.rfl, .rfl, .rfl, .rfl, .rfl, sep_mono .rfl (show E 2 c ⊢ (iprop(∃ W, owes (c : Thread nD τ) (0 : CellTallies nD τ sig Unit) W) : sProp 𝕄) from by
      iintro ⟨-, HO⟩; iexact HO)⟩)
    (hinit := ?_) (QY := fun c s => (s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2))
      ∧ (s.mem ((c.tc : Thread nD τ).loc main_v4) = V5 m (outs m) c main_v4 ∧ s.mem ((c.tc : Thread nD τ).loc main_v5) = V5 m (outs m) c main_v5 ∧ s.mem ((c.tc : Thread nD τ).loc main_v6) = V5 m (outs m) c main_v6))
    (hfin := fun c s' => ?_) (hQ := fun _ h hz => ⟨h, funext fun g => hz g (.inr (regions_no_unscoped g.2))⟩)
  · -- the launch: the unscoped buffers are `held` at `V0`; the rest makes `E 0`
    have hc : ∀ c : Dev nD, iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp)
        ⊢ (iprop(StableHlo.held (c : Thread nD τ) (Pipeline.ucRefs τ sig) (V0 m c) ∗ E 0 c) : sProp 𝕄) := fun c => by
      rw [← Pipeline.unscopedBufs_held (Ix := Unit) (Name := ℕ) (U := UR sig nD τ) (Lvl := ℕ) c (V0 m c)]
      iintro ⟨Hb, -, HO, -, Hp, -⟩
      isplitl [Hb]; · iexact Hb
      isplitl [Hp]; · iexists _; iexact Hp
      iexists _; iexact HO
    iintro ⟨H, -⟩
    imodintro
    iapply (show (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp))
        ⊢ (bigSep Finset.univ fun c : Dev nD => iprop(StableHlo.held (c : Thread nD τ) (Pipeline.ucRefs τ sig) (V0 m c) ∗ E 0 c) : sProp 𝕄) from
      bigSep_mono fun c _ => hc c)
    iexact H
  · -- the end: arguments and results read off the last valuation
    unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      exact ⟨⟨(h (Proc.devRef .tc main_arg0) (Finset.mem_filter.mpr ⟨StableHlo.devRef_mem_tcRefs main_arg0, by decide⟩)).trans (V5_main_arg0 m (outs m) c),
        (h (Proc.devRef .tc main_arg1) (Finset.mem_filter.mpr ⟨StableHlo.devRef_mem_tcRefs main_arg1, by decide⟩)).trans (V5_main_arg1 m (outs m) c),
        (h (Proc.devRef .tc main_arg2) (Finset.mem_filter.mpr ⟨StableHlo.devRef_mem_tcRefs main_arg2, by decide⟩)).trans (V5_main_arg2 m (outs m) c)⟩,
        h (Proc.devRef .tc main_v4) (Finset.mem_filter.mpr ⟨StableHlo.devRef_mem_tcRefs main_v4, by decide⟩),
        h (Proc.devRef .tc main_v5) (Finset.mem_filter.mpr ⟨StableHlo.devRef_mem_tcRefs main_v5, by decide⟩),
        h (Proc.devRef .tc main_v6) (Finset.mem_filter.mpr ⟨StableHlo.devRef_mem_tcRefs main_v6, by decide⟩)⟩
    · iexact HSI

end Cert.Kernel.Launch

end
-- ==== Proof.KernelIdealR0Runs.lean ====
/- What the runs of the rotate-and-quantise region share: its blocks, the conditions of its branches, its staging and scratch buffers,
   over any contents `V` of the unscoped buffers at its entry. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.R0

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 2, through which its contents are stated (`View.read_writes_of_cover`: the
    choice does not matter). -/
abbrev VO0_2 : View sig .tc .vmem S128x18432 .i8 := (Memref.whole cc0_stg2_0 : Memref sig .tc .vmem S128x18432 .i8).view
/-- One staging buffer of output window 3, through which its contents are stated (`View.read_writes_of_cover`: the
    choice does not matter). -/
abbrev VO0_3 : View sig .tc .vmem S128x1 .f32 := (Memref.whole cc0_stg3_0 : Memref sig .tc .vmem S128x1 .f32).view
/-- Each window's current staging memref at point `t`, spelled as the pipeline passes it (`bodyAt0`), and its wholeness. -/
abbrev ms0_0 (t : Fin cfg0.N) : Memref sig .tc .vmem S128x18432 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x18432 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x1 .f32 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S128x18432 .f32 := Memref.whole cc0_scratch0

/-- What the region's invariant carries beside its own scratch: every other scoped buffer at some contents, and the generator
    register at some state. -/
def Oth (c : Dev nD) : sProp 𝕄 :=
  iprop(Pipeline.scopedRestBut (Ix := Unit) (Name := ℕ) (U := UR sig nD τ) (Lvl := ℕ) (Val := Elt F) spec0 c [cc0_scratch0] ∗ (∃ r, prngReg c r))

/-- The class's invariant with the kernel's own scratch owned at some contents and the rest unopened. -/
theorem PhiA0_eq (c : Dev nD) :
    (Pipeline.ΦA spec0 c : sProp 𝕄)
      = iprop(iprop((∃ d, owns (c : Thread nD τ) scM0_0 fullShare d)) ∗ Oth c) := by
  unfold Pipeline.ΦA Oth
  rw [Pipeline.scopedRest_split_of_list spec0 c [cc0_scratch0] (by decide) (by decide)]
  simp only [scM0_0, owns_whole]
  exact (Idealize.SL.BI.Entails.antisymm Idealize.SL.BI.sep_assoc Idealize.SL.BI.sep_assoc')

end Cert.KernelIdeal.R0

end
-- ==== Proof.KernelIdealR0RunA.lean ====
/- The body of the rotate-and-quantise region, run in case A. -/
module

public import proofs.«01_k».proof.Proof.KernelIdealR0Runs

@[expose] public section

set_option maxRecDepth 16384

noncomputable section

namespace Cert.KernelIdeal.R0

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 2400000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S128x18432 .bf16) (harg1 : arg1.IsWhole) (arg2 : Memref sig .tc .vmem S256x256 .bf16) (harg2 : arg2.IsWhole) (arg3 : Memref sig .tc .vmem S128x18432 .i8) (harg3 : arg3.IsWhole) (arg4 : Memref sig .tc .vmem S128x1 .f32) (harg4 : arg4.IsWhole) (arg5 : Memref sig .tc .vmem S128x18432 .f32) (harg5 : arg5.IsWhole)
    (x0 : Vec F S128x18432 .bf16) (x1 : Vec F S256x256 .bf16) :
    Σ' (L2 : List (View.Piece (Elt F) S128x18432 .i8)), Σ' (L3 : List (View.Piece (Elt F) S128x1 .f32)), { LT0 : List (View.Piece (Elt F) S128x18432 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LT0)) -∗ K ⟨⟩))
          ⊢ wp frame (wpE (defs₀ (F := F)) Variants.none c none) E (cc0_rotate_quantise i arg1 harg1 arg2 harg2 arg3 harg3 arg4 harg4 arg5 harg5) K } := by
  refine ⟨?_, ?_, ?_, fun E K => ?run⟩
  case run =>
    simp only [cc0_rotate_quantise_eq_skeleton]; unfold cc0_rotate_quantise_skel
    simp only [k0_part44_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
    unfold owns
    iintro ⟨⟨%f0, %hf0, H0⟩, ⟨%f1, %hf1, H1⟩, ⟨%d2, %f2, -, H2⟩, ⟨%d3, %f3, -, H3⟩, ⟨%ds0, %fs0, -, HS0⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact HS0

end Cert.KernelIdeal.R0

end
-- ==== Proof.KernelIdealR0Frame.lean ====
/- The proof data of the rotate-and-quantise region and its body obligation. -/
module

public import proofs.«01_k».proof.Proof.KernelIdealR0RunA
public import Idealize.ShloMosaic.Lib.Claim

@[expose] public section

set_option maxRecDepth 16384

noncomputable section

namespace Cert.KernelIdeal.R0

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The run's pieces for output 2 tile its block (72 stores of `S128x256`, checked by the kernel's evaluation: Lib/Ring.lean `Piece.tiledL`, linear in the pieces, through a loop's `@[irreducible]` trip theorem too), so they cover it. -/
theorem cover0_A_2 (c : Dev nD) (i : grid0.Coords) (arg1 : Memref sig .tc .vmem S128x18432 .bf16) (harg1 : arg1.IsWhole) (arg2 : Memref sig .tc .vmem S256x256 .bf16) (harg2 : arg2.IsWhole) (arg3 : Memref sig .tc .vmem S128x18432 .i8) (harg3 : arg3.IsWhole) (arg4 : Memref sig .tc .vmem S128x1 .f32) (harg4 : arg4.IsWhole) (arg5 : Memref sig .tc .vmem S128x18432 .f32) (harg5 : arg5.IsWhole)
    (x0 : Vec F S128x18432 .bf16) (x1 : Vec F S256x256 .bf16) (y : S128x18432.Idx) :
    ∃ pc ∈ (kernelRun0_A c i arg1 harg1 arg2 harg2 arg3 harg3 arg4 harg4 arg5 harg5 x0 x1).1, y ∈ pc.1.set :=
  View.cover_of_tiledL (kernelRun0_A c i arg1 harg1 arg2 harg2 arg3 harg3 arg4 harg4 arg5 harg5 x0 x1).1 S128x256.size (by sl_kernel_rfl) y

/-- What the run leaves in output 2's staging buffer: its pieces read back over junk. -/
def out0_A_2 (c : Dev nD) (i : grid0.Coords) (arg1 : Memref sig .tc .vmem S128x18432 .bf16) (harg1 : arg1.IsWhole) (arg2 : Memref sig .tc .vmem S256x256 .bf16) (harg2 : arg2.IsWhole) (arg3 : Memref sig .tc .vmem S128x18432 .i8) (harg3 : arg3.IsWhole) (arg4 : Memref sig .tc .vmem S128x1 .f32) (harg4 : arg4.IsWhole) (arg5 : Memref sig .tc .vmem S128x18432 .f32) (harg5 : arg5.IsWhole)
    (x0 : Vec F S128x18432 .bf16) (x1 : Vec F S256x256 .bf16) : Vec F S128x18432 .i8 :=
  VO0_2.read (Elt F) (VO0_2.writes (Elt F) VO0_2.junk (kernelRun0_A c i arg1 harg1 arg2 harg2 arg3 harg3 arg4 harg4 arg5 harg5 x0 x1).1)

/-- The run's pieces for output 3 tile its block (1 store of `S128x1`, checked by the kernel's evaluation: Lib/Ring.lean `Piece.tiledL`, linear in the pieces, through a loop's `@[irreducible]` trip theorem too), so they cover it. -/
theorem cover0_A_3 (c : Dev nD) (i : grid0.Coords) (arg1 : Memref sig .tc .vmem S128x18432 .bf16) (harg1 : arg1.IsWhole) (arg2 : Memref sig .tc .vmem S256x256 .bf16) (harg2 : arg2.IsWhole) (arg3 : Memref sig .tc .vmem S128x18432 .i8) (harg3 : arg3.IsWhole) (arg4 : Memref sig .tc .vmem S128x1 .f32) (harg4 : arg4.IsWhole) (arg5 : Memref sig .tc .vmem S128x18432 .f32) (harg5 : arg5.IsWhole)
    (x0 : Vec F S128x18432 .bf16) (x1 : Vec F S256x256 .bf16) (y : S128x1.Idx) :
    ∃ pc ∈ (kernelRun0_A c i arg1 harg1 arg2 harg2 arg3 harg3 arg4 harg4 arg5 harg5 x0 x1).2.1, y ∈ pc.1.set :=
  View.cover_of_tiledL (kernelRun0_A c i arg1 harg1 arg2 harg2 arg3 harg3 arg4 harg4 arg5 harg5 x0 x1).2.1 S128x1.size (by sl_kernel_rfl) y

/-- What the run leaves in output 3's staging buffer: its pieces read back over junk. -/
def out0_A_3 (c : Dev nD) (i : grid0.Coords) (arg1 : Memref sig .tc .vmem S128x18432 .bf16) (harg1 : arg1.IsWhole) (arg2 : Memref sig .tc .vmem S256x256 .bf16) (harg2 : arg2.IsWhole) (arg3 : Memref sig .tc .vmem S128x18432 .i8) (harg3 : arg3.IsWhole) (arg4 : Memref sig .tc .vmem S128x1 .f32) (harg4 : arg4.IsWhole) (arg5 : Memref sig .tc .vmem S128x18432 .f32) (harg5 : arg5.IsWhole)
    (x0 : Vec F S128x18432 .bf16) (x1 : Vec F S256x256 .bf16) : Vec F S128x1 .f32 :=
  VO0_3.read (Elt F) (VO0_3.writes (Elt F) VO0_3.junk (kernelRun0_A c i arg1 harg1 arg2 harg2 arg3 harg3 arg4 harg4 arg5 harg5 x0 x1).2.1)

/-! ## What the outputs hold after each point -/

/-- What the outputs' staging buffers hold after the body at point `t` (as a tuple, in window order): the run's contents at
    the point's memrefs and input blocks. -/
def outsAt0 (c : Dev nD) (t : Fin cfg0.N) : Vec F S128x18432 .i8 × Vec F S128x1 .f32 :=
  (out0_A_2 c (grid0.coords t) (ms0_0 t) (hs0_0 t) (ms0_1 t) (hs0_1 t) (ms0_2 t) (hs0_2 t) (ms0_3 t) (hs0_3 t) scM0_0 (Memref.isWhole_whole _) (iblk V c 0 t) (iblk V c 1 t), out0_A_3 c (grid0.coords t) (ms0_0 t) (hs0_0 t) (ms0_1 t) (hs0_1 t) (ms0_2 t) (hs0_2 t) (ms0_3 t) (hs0_3 t) scM0_0 (Memref.isWhole_whole _) (iblk V c 0 t) (iblk V c 1 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt0 V c t).1
    | ⟨3, _⟩ => (outsAt0 V c t).2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dat V c).A w = V c (Pipeline.arrRef spec0 w) := by
  dsimp only [dat]

/-- What the body leaves, window by window (the proof data's `match` reduced by `dsimp`). -/
theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = (outsAt0 V c t).1 := by dsimp only [dat]
theorem after0_3 (c : Dev nD) (t : Fin cfg0.N) : (dat V c).after 3 t = (outsAt0 V c t).2 := by dsimp only [dat]

/-- Each input's current staging buffer holds its block at every point, fetched there or not (`beforeK_W_of`). -/
theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d

/-! ## The body obligation, at a generic point -/

/-- What the body is called with at point `t` (Lib/Pipeline.lean `BodyObligation`'s precondition, the windows one by one), -/
def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (ms0_0 t) fullShare ((dat V c).after 0 t)
    ∗ owns (c : Thread nD τ) (ms0_1 t) fullShare ((dat V c).after 1 t)
    ∗ owns (c : Thread nD τ) (ms0_2 t) fullShare ((dat V c).after 2 t)
    ∗ owns (c : Thread nD τ) (ms0_3 t) fullShare ((dat V c).after 3 t))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat V c).Φ t.succ = (dat V c).Φ t.castSucc from rfl,
    show (dat V c).owesAt () t.succ = (dat V c).owesAt () t.castSucc from rfl,
    after0_0, after0_1, after0_2, after0_3]
  rw [show (dat V c).Φ t.castSucc = Pipeline.ΦA spec0 c from rfl, PhiA0_eq]
  unfold outsAt0
  unfold out0_A_2 out0_A_3; (try dsimp only)
  iintro ⟨⟨HS0, Hg⟩, Ho, ⟨%d0, H0⟩, ⟨%d1, H1⟩, ⟨%d2, H2⟩, ⟨%d3, H3⟩⟩
  iapply ((kernelRun0_A c (grid0.coords t) _ _ _ _ _ _ _ _ _ _ (iblk V c 0 t) (iblk V c 1 t)).2.2.2 Set.univ _)
  isplitl [H0]; · iexact H0
  isplitl [H1]; · iexact H1
  isplitl [H2]; · iexists _; iexact H2
  isplitl [H3]; · iexists _; iexact H3
  isplitl [HS0]; · iexact HS0
  iintro ⟨H0, H1, ⟨%e2, H2⟩, ⟨%e3, H3⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover0_A_2 c _ _ _ _ _ _ _ _ _ _ _ _ _)
  unfold owns; iexists _; isplitr
  swap; · iexact H3
  ipureintro; exact View.read_writes_of_cover _ _ _ _ _ (cover0_A_3 c _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

end Cert.KernelIdeal.R0

end
-- ==== Proof.KernelIdealR1Runs.lean ====
/- What the runs of the matrix-product region share: its blocks, the conditions of its branches, its staging and scratch buffers,
   over any contents `V` of the unscoped buffers at its entry. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.R1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k1_h1`), from the grid coordinates (the skeleton's scalar
    chain substituted). -/
abbrev cond0_0 (i : grid1.Coords) : Prop := (Scalar.cmpi .ne (Scalar.extui (Scalar.cmpi .eq (BitVec.ofNat 32 (i 2).val) 0#32)) 0#32) = 1#1
/-- It holds at the points ≡ 0 (mod 8) — by arithmetic of the point. -/
theorem hcond0_0 : ∀ t : Fin cfg1.N, cond0_0 (grid1.coords t) ↔ t.val % 8 = 0 :=
  (fun t => by
    have ht : t.val < 840 := Nat.lt_of_lt_of_eq t.isLt N_1
    have e0 : (grid1.coords t 0).val = t.val / 56 % 15 := Pipeline.Grid.coords_val t 0 (by decide) rfl
    have e1 : (grid1.coords t 1).val = t.val / 8 % 7 := Pipeline.Grid.coords_val t 1 (by decide) rfl
    have e2 : (grid1.coords t 2).val = t.val / 1 % 8 := Pipeline.Grid.coords_val t 2 (by decide) rfl
    simp only [cond0_0, e0, e1, e2]
    word_cmp
   : ∀ t : Fin grid1.N, cond0_0 (grid1.coords t) ↔ t.val % 8 = 0)

/-- The condition of the body's `scf.if` 1 (`k1_h2`), from the grid coordinates (the skeleton's scalar
    chain substituted). -/
abbrev cond0_1 (i : grid1.Coords) : Prop := (Scalar.cmpi .ne (Scalar.extui (Scalar.cmpi .sgt (BitVec.ofNat 32 (i 2).val) 0#32)) 0#32) = 1#1
/-- It holds at the points whose coordinates have 1 ≤ i2 — decided over the grid. -/
theorem hcond0_1 : ∀ t : Fin cfg1.N, cond0_1 (grid1.coords t) ↔ 1 ≤ t.val % 8 :=
  (by decide +kernel : ∀ t : Fin grid1.N, cond0_1 (grid1.coords t) ↔ 1 ≤ t.val % 8)

/-- The condition of the body's `scf.if` 2 (`k1_h3`), from the grid coordinates (the skeleton's scalar
    chain substituted). -/
abbrev cond0_2 (i : grid1.Coords) : Prop := k1_cond3 i = 1#1
/-- It holds at the points ≡ 7 (mod 8) — by arithmetic of the point. -/
theorem hcond0_2 : ∀ t : Fin cfg1.N, cond0_2 (grid1.coords t) ↔ t.val % 8 = 7 :=
  (fun t => by
    have ht : t.val < 840 := Nat.lt_of_lt_of_eq t.isLt N_1
    have e0 : (grid1.coords t 0).val = t.val / 56 % 15 := Pipeline.Grid.coords_val t 0 (by decide) rfl
    have e1 : (grid1.coords t 1).val = t.val / 8 % 7 := Pipeline.Grid.coords_val t 1 (by decide) rfl
    have e2 : (grid1.coords t 2).val = t.val / 1 % 8 := Pipeline.Grid.coords_val t 2 (by decide) rfl
    simp only [cond0_2, k1_cond3, e0, e1, e2]
    word_cmp
   : ∀ t : Fin grid1.N, cond0_2 (grid1.coords t) ↔ t.val % 8 = 7)

/-! ## Where the windows are idle (the printed configuration's table `Cfg.idle`) -/

/-- Window 0 is never idle (an input). -/
theorem liveAt0_0 : ∀ t : Fin cfg1.N, cfg1.idle 0 (grid1.coords t) = false := fun _ => rfl
/-- Window 1 is never idle (an input). -/
theorem liveAt0_1 : ∀ t : Fin cfg1.N, cfg1.idle 1 (grid1.coords t) = false := fun _ => rfl
/-- Window 2 is never idle (an input). -/
theorem liveAt0_2 : ∀ t : Fin cfg1.N, cfg1.idle 2 (grid1.coords t) = false := fun _ => rfl
/-- Window 3 is never idle (an input). -/
theorem liveAt0_3 : ∀ t : Fin cfg1.N, cfg1.idle 3 (grid1.coords t) = false := fun _ => rfl
/-- Window 4 is never idle (an input). -/
theorem liveAt0_4 : ∀ t : Fin cfg1.N, cfg1.idle 4 (grid1.coords t) = false := fun _ => rfl
/-- At the points of case A the printed configuration (`Cfg.idle`) calls output 5 idle: the case stores nothing into it. -/
theorem idleAt0_5_A : ∀ t : Fin cfg1.N, cond0_0 (grid1.coords t) → ¬cond0_1 (grid1.coords t) → ¬cond0_2 (grid1.coords t) → cfg1.idle 5 (grid1.coords t) = true := by decide +kernel
/-- At the points of case A the pipeline does not write output 5's block back. -/
theorem noFlush0_5_A : ∀ t : Fin cfg1.N, cond0_0 (grid1.coords t) → ¬cond0_1 (grid1.coords t) → ¬cond0_2 (grid1.coords t) → (cfg1.win 5).flush t = false := by decide +kernel
/-- At the points of case B the printed configuration (`Cfg.idle`) calls output 5 idle: the case stores nothing into it. -/
theorem idleAt0_5_B : ∀ t : Fin cfg1.N, ¬cond0_0 (grid1.coords t) → cond0_1 (grid1.coords t) → ¬cond0_2 (grid1.coords t) → cfg1.idle 5 (grid1.coords t) = true := by decide +kernel
/-- At the points of case B the pipeline does not write output 5's block back. -/
theorem noFlush0_5_B : ∀ t : Fin cfg1.N, ¬cond0_0 (grid1.coords t) → cond0_1 (grid1.coords t) → ¬cond0_2 (grid1.coords t) → (cfg1.win 5).flush t = false := by decide +kernel
/-- At the points of case C the printed configuration (`Cfg.idle`) calls output 5 live: the case stores into it. -/
theorem liveAt0_5_C : ∀ t : Fin cfg1.N, ¬cond0_0 (grid1.coords t) → cond0_1 (grid1.coords t) → cond0_2 (grid1.coords t) → cfg1.idle 5 (grid1.coords t) = false := by decide +kernel

/-! ## The kernel body on any staging memrefs: a subtype the run finds -/

/-- One staging buffer of output window 5, through which its contents are stated (`View.read_writes_of_cover`: the
    choice does not matter). -/
abbrev VO0_5 : View sig .tc .vmem S512x1024 .bf16 := (Memref.whole cc1_stg5_0 : Memref sig .tc .vmem S512x1024 .bf16).view
/-- Each window's current staging memref at point `t`, spelled as the pipeline passes it (`bodyAt1`), and its wholeness. -/
abbrev ms0_0 (t : Fin cfg1.N) : Memref sig .tc .vmem S512x1152 .i8 := win1_0.stage (cfg1.slots t 0)
abbrev hs0_0 (t : Fin cfg1.N) : (ms0_0 t).IsWhole := hstage1_0 ((cfg1.slots t 0).cast nbuf1_0)
abbrev ms0_1 (t : Fin cfg1.N) : Memref sig .tc .vmem S512x1152 .i8 := win1_1.stage (cfg1.slots t 1)
abbrev hs0_1 (t : Fin cfg1.N) : (ms0_1 t).IsWhole := hstage1_1 ((cfg1.slots t 1).cast nbuf1_1)
abbrev ms0_2 (t : Fin cfg1.N) : Memref sig .tc .vmem S1152x1024 .i8 := win1_2.stage (cfg1.slots t 2)
abbrev hs0_2 (t : Fin cfg1.N) : (ms0_2 t).IsWhole := hstage1_2 ((cfg1.slots t 2).cast nbuf1_2)
abbrev ms0_3 (t : Fin cfg1.N) : Memref sig .tc .vmem S512x1 .f32 := win1_3.stage (cfg1.slots t 3)
abbrev hs0_3 (t : Fin cfg1.N) : (ms0_3 t).IsWhole := hstage1_3 ((cfg1.slots t 3).cast nbuf1_3)
abbrev ms0_4 (t : Fin cfg1.N) : Memref sig .tc .vmem S1x1024 .f32 := win1_4.stage (cfg1.slots t 4)
abbrev hs0_4 (t : Fin cfg1.N) : (ms0_4 t).IsWhole := hstage1_4 ((cfg1.slots t 4).cast nbuf1_4)
abbrev ms0_5 (t : Fin cfg1.N) : Memref sig .tc .vmem S512x1024 .bf16 := win1_5.stage (cfg1.slots t 5)
abbrev hs0_5 (t : Fin cfg1.N) : (ms0_5 t).IsWhole := hstage1_5 ((cfg1.slots t 5).cast nbuf1_5)
/-- The scratch operands: whole scoped buffers of the kernel's own, passed beside the windows. -/
abbrev scM0_0 : Memref sig .tc .vmem S512x1024 .f32 := Memref.whole cc1_scratch0
/-- The scratch `arg9` the kernel carries between points, as a view: what it holds is stated through it. -/
abbrev VS0_0 : View sig .tc .vmem S512x1024 .f32 := scM0_0.view

/-- What the region's invariant carries beside its own scratch: every other scoped buffer at some contents, and the generator
    register at some state. -/
def Oth (c : Dev nD) : sProp 𝕄 :=
  iprop(Pipeline.scopedRestBut (Ix := Unit) (Name := ℕ) (U := UR sig nD τ) (Lvl := ℕ) (Val := Elt F) spec1 c [cc1_scratch0] ∗ (∃ r, prngReg c r))

/-- The class's invariant with the kernel's own scratch owned at some contents and the rest unopened. -/
theorem PhiA0_eq (c : Dev nD) :
    (Pipeline.ΦA spec1 c : sProp 𝕄)
      = iprop(iprop((∃ d, owns (c : Thread nD τ) scM0_0 fullShare d)) ∗ Oth c) := by
  unfold Pipeline.ΦA Oth
  rw [Pipeline.scopedRest_split_of_list spec1 c [cc1_scratch0] (by decide) (by decide)]
  simp only [scM0_0, owns_whole]
  exact (Idealize.SL.BI.Entails.antisymm Idealize.SL.BI.sep_assoc Idealize.SL.BI.sep_assoc')

end Cert.KernelIdeal.R1

end
-- ==== Proof.KernelIdealR1RunA.lean ====
/- The body of the matrix-product region, run in case A. -/
module

public import proofs.«01_k».proof.Proof.KernelIdealR1Runs

@[expose] public section

set_option maxRecDepth 16384

noncomputable section

namespace Cert.KernelIdeal.R1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE A (`scf.if` 0 taken, `scf.if` 1 not taken, `scf.if` 2 not taken: points 0, 8, … 832: 105 of 840), WITH the
    proof that on whole staging memrefs — the inputs' at their contents, the outputs it leaves idle (5: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid1.Coords) (arg3 : Memref sig .tc .vmem S512x1152 .i8) (harg3 : arg3.IsWhole) (arg4 : Memref sig .tc .vmem S512x1152 .i8) (harg4 : arg4.IsWhole) (arg5 : Memref sig .tc .vmem S1152x1024 .i8) (harg5 : arg5.IsWhole) (arg6 : Memref sig .tc .vmem S512x1 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .f32) (harg9 : arg9.IsWhole) (hc0 : cond0_0 i) (hc1 : ¬cond0_1 i) (hc2 : ¬cond0_2 i)
    (x0 : Vec F S512x1152 .i8) (x1 : Vec F S512x1152 .i8) (x2 : Vec F S1152x1024 .i8) (x3 : Vec F S512x1 .f32) (x4 : Vec F S1x1024 .f32) :
    Σ' (L5 : List (View.Piece (Elt F) S512x1024 .bf16)), { LS0 : List (View.Piece (Elt F) S512x1024 .f32) //
      ∀ (xi5 : Vec F S512x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1_w4a8_gemm i arg3 harg3 arg4 harg4 arg5 harg5 arg6 harg6 arg7 harg7 arg8 harg8 arg9 harg9) K } := by
  refine ⟨[], ?_, fun xi5 E K => ?run⟩
  case run =>
    simp only [cc1_w4a8_gemm_eq_skeleton]; unfold cc1_w4a8_gemm_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.R1

end
-- ==== Proof.KernelIdealR1RunB.lean ====
/- The body of the matrix-product region, run in case B. -/
module

public import proofs.«01_k».proof.Proof.KernelIdealR1RunA

@[expose] public section

set_option maxRecDepth 16384

noncomputable section

namespace Cert.KernelIdeal.R1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken: points 1, 2, … 838: 630 of 840), WITH the
    proof that on whole staging memrefs — the inputs' at their contents, the outputs it leaves idle (5: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid1.Coords) (arg3 : Memref sig .tc .vmem S512x1152 .i8) (harg3 : arg3.IsWhole) (arg4 : Memref sig .tc .vmem S512x1152 .i8) (harg4 : arg4.IsWhole) (arg5 : Memref sig .tc .vmem S1152x1024 .i8) (harg5 : arg5.IsWhole) (arg6 : Memref sig .tc .vmem S512x1 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .f32) (harg9 : arg9.IsWhole) (hc0 : ¬cond0_0 i) (hc1 : cond0_1 i) (hc2 : ¬cond0_2 i)
    (x0 : Vec F S512x1152 .i8) (x1 : Vec F S512x1152 .i8) (x2 : Vec F S1152x1024 .i8) (x3 : Vec F S512x1 .f32) (x4 : Vec F S1x1024 .f32) (xs0 : Vec F S512x1024 .f32) :
    Σ' (L5 : List (View.Piece (Elt F) S512x1024 .bf16)), { LS0 : List (View.Piece (Elt F) S512x1024 .f32) //
      ∀ (xi5 : Vec F S512x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1_w4a8_gemm i arg3 harg3 arg4 harg4 arg5 harg5 arg6 harg6 arg7 harg7 arg8 harg8 arg9 harg9) K } := by
  refine ⟨[], ?_, fun xi5 E K => ?run⟩
  case run =>
    simp only [cc1_w4a8_gemm_eq_skeleton]; unfold cc1_w4a8_gemm_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.R1

end
-- ==== Proof.KernelIdealR1RunC.lean ====
/- The body of the matrix-product region, run in case C. -/
module

public import proofs.«01_k».proof.Proof.KernelIdealR1RunB

@[expose] public section

set_option maxRecDepth 16384

noncomputable section

namespace Cert.KernelIdeal.R1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE C (`scf.if` 0 not taken, `scf.if` 1 taken, `scf.if` 2 taken: points 7, 15, … 839: 105 of 840), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid1.Coords) (arg3 : Memref sig .tc .vmem S512x1152 .i8) (harg3 : arg3.IsWhole) (arg4 : Memref sig .tc .vmem S512x1152 .i8) (harg4 : arg4.IsWhole) (arg5 : Memref sig .tc .vmem S1152x1024 .i8) (harg5 : arg5.IsWhole) (arg6 : Memref sig .tc .vmem S512x1 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .f32) (harg9 : arg9.IsWhole) (hc0 : ¬cond0_0 i) (hc1 : cond0_1 i) (hc2 : cond0_2 i)
    (x0 : Vec F S512x1152 .i8) (x1 : Vec F S512x1152 .i8) (x2 : Vec F S1152x1024 .i8) (x3 : Vec F S512x1 .f32) (x4 : Vec F S1x1024 .f32) (xs0 : Vec F S512x1024 .f32) :
    Σ' (L5 : List (View.Piece (Elt F) S512x1024 .bf16)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc1_w4a8_gemm i arg3 harg3 arg4 harg4 arg5 harg5 arg6 harg6 arg7 harg7 arg8 harg8 arg9 harg9) K } := by
  refine ⟨?_, ?_, fun E K => ?run⟩
  case run =>
    simp only [cc1_w4a8_gemm_eq_skeleton]; unfold cc1_w4a8_gemm_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.KernelIdeal.R1

end
-- ==== Proof.KernelIdealR1Frame.lean ====
/- The proof data of the matrix-product region and its body obligation. -/
module

public import proofs.«01_k».proof.Proof.KernelIdealR1RunC
public import Idealize.ShloMosaic.Lib.Claim

@[expose] public section

set_option maxRecDepth 16384

noncomputable section

namespace Cert.KernelIdeal.R1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A stores nothing into output 5 (the window is idle at its points and not written back there):
    no pieces — a placeholder (junk read back) that nothing consults, since at these points the window is neither
    written back nor read at the next point (Lib/Pipeline.lean "Idle points"). -/
def out0_A_5 (c : Dev nD) (i : grid1.Coords) (arg3 : Memref sig .tc .vmem S512x1152 .i8) (harg3 : arg3.IsWhole) (arg4 : Memref sig .tc .vmem S512x1152 .i8) (harg4 : arg4.IsWhole) (arg5 : Memref sig .tc .vmem S1152x1024 .i8) (harg5 : arg5.IsWhole) (arg6 : Memref sig .tc .vmem S512x1 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .f32) (harg9 : arg9.IsWhole) (hc0 : cond0_0 i) (hc1 : ¬cond0_1 i) (hc2 : ¬cond0_2 i)
    (x0 : Vec F S512x1152 .i8) (x1 : Vec F S512x1152 .i8) (x2 : Vec F S1152x1024 .i8) (x3 : Vec F S512x1 .f32) (x4 : Vec F S1x1024 .f32) : Vec F S512x1024 .bf16 :=
  VO0_5.read (Elt F) (VO0_5.writes (Elt F) VO0_5.junk (kernelRun0_A c i arg3 harg3 arg4 harg4 arg5 harg5 arg6 harg6 arg7 harg7 arg8 harg8 arg9 harg9 hc0 hc1 hc2 x0 x1 x2 x3 x4).1)

/-- Case A's pieces for scratch `arg9`, which the kernel carries between points, cover it: 1 piece of `S512x1024` tiling it (Lib/Ring.lean `Piece.tiledL`). -/
theorem scover0_A_0 (c : Dev nD) (i : grid1.Coords) (arg3 : Memref sig .tc .vmem S512x1152 .i8) (harg3 : arg3.IsWhole) (arg4 : Memref sig .tc .vmem S512x1152 .i8) (harg4 : arg4.IsWhole) (arg5 : Memref sig .tc .vmem S1152x1024 .i8) (harg5 : arg5.IsWhole) (arg6 : Memref sig .tc .vmem S512x1 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .f32) (harg9 : arg9.IsWhole) (hc0 : cond0_0 i) (hc1 : ¬cond0_1 i) (hc2 : ¬cond0_2 i)
    (x0 : Vec F S512x1152 .i8) (x1 : Vec F S512x1152 .i8) (x2 : Vec F S1152x1024 .i8) (x3 : Vec F S512x1 .f32) (x4 : Vec F S1x1024 .f32) (y : S512x1024.Idx) :
    ∃ pc ∈ (kernelRun0_A c i arg3 harg3 arg4 harg4 arg5 harg5 arg6 harg6 arg7 harg7 arg8 harg8 arg9 harg9 hc0 hc1 hc2 x0 x1 x2 x3 x4).2.1, y ∈ pc.1.set :=
  View.cover_of_tiledL (kernelRun0_A c i arg3 harg3 arg4 harg4 arg5 harg5 arg6 harg6 arg7 harg7 arg8 harg8 arg9 harg9 hc0 hc1 hc2 x0 x1 x2 x3 x4).2.1 S512x1024.size (by sl_kernel_rfl) y

/-- What case A leaves in scratch `arg9`: its pieces read back over junk. -/
def sout0_A_0 (c : Dev nD) (i : grid1.Coords) (arg3 : Memref sig .tc .vmem S512x1152 .i8) (harg3 : arg3.IsWhole) (arg4 : Memref sig .tc .vmem S512x1152 .i8) (harg4 : arg4.IsWhole) (arg5 : Memref sig .tc .vmem S1152x1024 .i8) (harg5 : arg5.IsWhole) (arg6 : Memref sig .tc .vmem S512x1 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .f32) (harg9 : arg9.IsWhole) (hc0 : cond0_0 i) (hc1 : ¬cond0_1 i) (hc2 : ¬cond0_2 i)
    (x0 : Vec F S512x1152 .i8) (x1 : Vec F S512x1152 .i8) (x2 : Vec F S1152x1024 .i8) (x3 : Vec F S512x1 .f32) (x4 : Vec F S1x1024 .f32) : Vec F S512x1024 .f32 :=
  VS0_0.read (Elt F) (VS0_0.writes (Elt F) VS0_0.junk (kernelRun0_A c i arg3 harg3 arg4 harg4 arg5 harg5 arg6 harg6 arg7 harg7 arg8 harg8 arg9 harg9 hc0 hc1 hc2 x0 x1 x2 x3 x4).2.1)

/-- Case B stores nothing into output 5 (the window is idle at its points and not written back there):
    no pieces — a placeholder (junk read back) that nothing consults, since at these points the window is neither
    written back nor read at the next point (Lib/Pipeline.lean "Idle points"). -/
def out0_B_5 (c : Dev nD) (i : grid1.Coords) (arg3 : Memref sig .tc .vmem S512x1152 .i8) (harg3 : arg3.IsWhole) (arg4 : Memref sig .tc .vmem S512x1152 .i8) (harg4 : arg4.IsWhole) (arg5 : Memref sig .tc .vmem S1152x1024 .i8) (harg5 : arg5.IsWhole) (arg6 : Memref sig .tc .vmem S512x1 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .f32) (harg9 : arg9.IsWhole) (hc0 : ¬cond0_0 i) (hc1 : cond0_1 i) (hc2 : ¬cond0_2 i)
    (x0 : Vec F S512x1152 .i8) (x1 : Vec F S512x1152 .i8) (x2 : Vec F S1152x1024 .i8) (x3 : Vec F S512x1 .f32) (x4 : Vec F S1x1024 .f32) (xs0 : Vec F S512x1024 .f32) : Vec F S512x1024 .bf16 :=
  VO0_5.read (Elt F) (VO0_5.writes (Elt F) VO0_5.junk (kernelRun0_B c i arg3 harg3 arg4 harg4 arg5 harg5 arg6 harg6 arg7 harg7 arg8 harg8 arg9 harg9 hc0 hc1 hc2 x0 x1 x2 x3 x4 xs0).1)

/-- Case B's pieces for scratch `arg9`, which the kernel carries between points, cover it: 1 piece of `S512x1024` tiling it (Lib/Ring.lean `Piece.tiledL`). -/
theorem scover0_B_0 (c : Dev nD) (i : grid1.Coords) (arg3 : Memref sig .tc .vmem S512x1152 .i8) (harg3 : arg3.IsWhole) (arg4 : Memref sig .tc .vmem S512x1152 .i8) (harg4 : arg4.IsWhole) (arg5 : Memref sig .tc .vmem S1152x1024 .i8) (harg5 : arg5.IsWhole) (arg6 : Memref sig .tc .vmem S512x1 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .f32) (harg9 : arg9.IsWhole) (hc0 : ¬cond0_0 i) (hc1 : cond0_1 i) (hc2 : ¬cond0_2 i)
    (x0 : Vec F S512x1152 .i8) (x1 : Vec F S512x1152 .i8) (x2 : Vec F S1152x1024 .i8) (x3 : Vec F S512x1 .f32) (x4 : Vec F S1x1024 .f32) (xs0 : Vec F S512x1024 .f32) (y : S512x1024.Idx) :
    ∃ pc ∈ (kernelRun0_B c i arg3 harg3 arg4 harg4 arg5 harg5 arg6 harg6 arg7 harg7 arg8 harg8 arg9 harg9 hc0 hc1 hc2 x0 x1 x2 x3 x4 xs0).2.1, y ∈ pc.1.set :=
  View.cover_of_tiledL (kernelRun0_B c i arg3 harg3 arg4 harg4 arg5 harg5 arg6 harg6 arg7 harg7 arg8 harg8 arg9 harg9 hc0 hc1 hc2 x0 x1 x2 x3 x4 xs0).2.1 S512x1024.size (by sl_kernel_rfl) y

/-- What case B leaves in scratch `arg9`: its pieces read back over junk. -/
def sout0_B_0 (c : Dev nD) (i : grid1.Coords) (arg3 : Memref sig .tc .vmem S512x1152 .i8) (harg3 : arg3.IsWhole) (arg4 : Memref sig .tc .vmem S512x1152 .i8) (harg4 : arg4.IsWhole) (arg5 : Memref sig .tc .vmem S1152x1024 .i8) (harg5 : arg5.IsWhole) (arg6 : Memref sig .tc .vmem S512x1 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .f32) (harg9 : arg9.IsWhole) (hc0 : ¬cond0_0 i) (hc1 : cond0_1 i) (hc2 : ¬cond0_2 i)
    (x0 : Vec F S512x1152 .i8) (x1 : Vec F S512x1152 .i8) (x2 : Vec F S1152x1024 .i8) (x3 : Vec F S512x1 .f32) (x4 : Vec F S1x1024 .f32) (xs0 : Vec F S512x1024 .f32) : Vec F S512x1024 .f32 :=
  VS0_0.read (Elt F) (VS0_0.writes (Elt F) VS0_0.junk (kernelRun0_B c i arg3 harg3 arg4 harg4 arg5 harg5 arg6 harg6 arg7 harg7 arg8 harg8 arg9 harg9 hc0 hc1 hc2 x0 x1 x2 x3 x4 xs0).2.1)

/-- Case C's pieces for output 5 tile its block (1 store of `S512x1024`, checked by the kernel's evaluation: Lib/Ring.lean `Piece.tiledL`, linear in the pieces, through a loop's `@[irreducible]` trip theorem too), so they cover it. -/
theorem cover0_C_5 (c : Dev nD) (i : grid1.Coords) (arg3 : Memref sig .tc .vmem S512x1152 .i8) (harg3 : arg3.IsWhole) (arg4 : Memref sig .tc .vmem S512x1152 .i8) (harg4 : arg4.IsWhole) (arg5 : Memref sig .tc .vmem S1152x1024 .i8) (harg5 : arg5.IsWhole) (arg6 : Memref sig .tc .vmem S512x1 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .f32) (harg9 : arg9.IsWhole) (hc0 : ¬cond0_0 i) (hc1 : cond0_1 i) (hc2 : cond0_2 i)
    (x0 : Vec F S512x1152 .i8) (x1 : Vec F S512x1152 .i8) (x2 : Vec F S1152x1024 .i8) (x3 : Vec F S512x1 .f32) (x4 : Vec F S1x1024 .f32) (xs0 : Vec F S512x1024 .f32) (y : S512x1024.Idx) :
    ∃ pc ∈ (kernelRun0_C c i arg3 harg3 arg4 harg4 arg5 harg5 arg6 harg6 arg7 harg7 arg8 harg8 arg9 harg9 hc0 hc1 hc2 x0 x1 x2 x3 x4 xs0).1, y ∈ pc.1.set :=
  View.cover_of_tiledL (kernelRun0_C c i arg3 harg3 arg4 harg4 arg5 harg5 arg6 harg6 arg7 harg7 arg8 harg8 arg9 harg9 hc0 hc1 hc2 x0 x1 x2 x3 x4 xs0).1 S512x1024.size (by sl_kernel_rfl) y

/-- What case C leaves in output 5's staging buffer: its pieces read back over junk. -/
def out0_C_5 (c : Dev nD) (i : grid1.Coords) (arg3 : Memref sig .tc .vmem S512x1152 .i8) (harg3 : arg3.IsWhole) (arg4 : Memref sig .tc .vmem S512x1152 .i8) (harg4 : arg4.IsWhole) (arg5 : Memref sig .tc .vmem S1152x1024 .i8) (harg5 : arg5.IsWhole) (arg6 : Memref sig .tc .vmem S512x1 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .f32) (harg9 : arg9.IsWhole) (hc0 : ¬cond0_0 i) (hc1 : cond0_1 i) (hc2 : cond0_2 i)
    (x0 : Vec F S512x1152 .i8) (x1 : Vec F S512x1152 .i8) (x2 : Vec F S1152x1024 .i8) (x3 : Vec F S512x1 .f32) (x4 : Vec F S1x1024 .f32) (xs0 : Vec F S512x1024 .f32) : Vec F S512x1024 .bf16 :=
  VO0_5.read (Elt F) (VO0_5.writes (Elt F) VO0_5.junk (kernelRun0_C c i arg3 harg3 arg4 harg4 arg5 harg5 arg6 harg6 arg7 harg7 arg8 harg8 arg9 harg9 hc0 hc1 hc2 x0 x1 x2 x3 x4 xs0).1)

/-- Case C's pieces for scratch `arg9`, which the kernel carries between points, cover it: 1 piece of `S512x1024` tiling it (Lib/Ring.lean `Piece.tiledL`). -/
theorem scover0_C_0 (c : Dev nD) (i : grid1.Coords) (arg3 : Memref sig .tc .vmem S512x1152 .i8) (harg3 : arg3.IsWhole) (arg4 : Memref sig .tc .vmem S512x1152 .i8) (harg4 : arg4.IsWhole) (arg5 : Memref sig .tc .vmem S1152x1024 .i8) (harg5 : arg5.IsWhole) (arg6 : Memref sig .tc .vmem S512x1 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .f32) (harg9 : arg9.IsWhole) (hc0 : ¬cond0_0 i) (hc1 : cond0_1 i) (hc2 : cond0_2 i)
    (x0 : Vec F S512x1152 .i8) (x1 : Vec F S512x1152 .i8) (x2 : Vec F S1152x1024 .i8) (x3 : Vec F S512x1 .f32) (x4 : Vec F S1x1024 .f32) (xs0 : Vec F S512x1024 .f32) (y : S512x1024.Idx) :
    ∃ pc ∈ (kernelRun0_C c i arg3 harg3 arg4 harg4 arg5 harg5 arg6 harg6 arg7 harg7 arg8 harg8 arg9 harg9 hc0 hc1 hc2 x0 x1 x2 x3 x4 xs0).2.1, y ∈ pc.1.set :=
  View.cover_of_tiledL (kernelRun0_C c i arg3 harg3 arg4 harg4 arg5 harg5 arg6 harg6 arg7 harg7 arg8 harg8 arg9 harg9 hc0 hc1 hc2 x0 x1 x2 x3 x4 xs0).2.1 S512x1024.size (by sl_kernel_rfl) y

/-- What case C leaves in scratch `arg9`: its pieces read back over junk. -/
def sout0_C_0 (c : Dev nD) (i : grid1.Coords) (arg3 : Memref sig .tc .vmem S512x1152 .i8) (harg3 : arg3.IsWhole) (arg4 : Memref sig .tc .vmem S512x1152 .i8) (harg4 : arg4.IsWhole) (arg5 : Memref sig .tc .vmem S1152x1024 .i8) (harg5 : arg5.IsWhole) (arg6 : Memref sig .tc .vmem S512x1 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .f32) (harg9 : arg9.IsWhole) (hc0 : ¬cond0_0 i) (hc1 : cond0_1 i) (hc2 : cond0_2 i)
    (x0 : Vec F S512x1152 .i8) (x1 : Vec F S512x1152 .i8) (x2 : Vec F S1152x1024 .i8) (x3 : Vec F S512x1 .f32) (x4 : Vec F S1x1024 .f32) (xs0 : Vec F S512x1024 .f32) : Vec F S512x1024 .f32 :=
  VS0_0.read (Elt F) (VS0_0.writes (Elt F) VS0_0.junk (kernelRun0_C c i arg3 harg3 arg4 harg4 arg5 harg5 arg6 harg6 arg7 harg7 arg8 harg8 arg9 harg9 hc0 hc1 hc2 x0 x1 x2 x3 x4 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg1.N → Vec F S512x1024 .bf16 × Vec F S512x1024 .f32
  | 0, hn => (out0_A_5 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk V c 0 ⟨0, hn⟩) (iblk V c 1 ⟨0, hn⟩) (iblk V c 2 ⟨0, hn⟩) (iblk V c 3 ⟨0, hn⟩) (iblk V c 4 ⟨0, hn⟩), sout0_A_0 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk V c 0 ⟨0, hn⟩) (iblk V c 1 ⟨0, hn⟩) (iblk V c 2 ⟨0, hn⟩) (iblk V c 3 ⟨0, hn⟩) (iblk V c 4 ⟨0, hn⟩))
  | n + 1, hn =>
    if h0 : (n + 1) % 8 = 0 then
      if h1 : 1 ≤ (n + 1) % 8 then
        False.elim (by have hN : n + 1 < 840 := lt_of_lt_of_eq hn (show cfg1.N = 840 from N_1); omega)
      else
        if h2 : (n + 1) % 8 = 7 then
          False.elim (by have hN : n + 1 < 840 := lt_of_lt_of_eq hn (show cfg1.N = 840 from N_1); omega)
        else
          (out0_A_5 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩), sout0_A_0 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩))
    else
      if h1 : 1 ≤ (n + 1) % 8 then
        if h2 : (n + 1) % 8 = 7 then
          (out0_C_5 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt0 c n (Nat.lt_of_succ_lt hn)).2, sout0_C_0 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt0 c n (Nat.lt_of_succ_lt hn)).2)
        else
          (out0_B_5 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt0 c n (Nat.lt_of_succ_lt hn)).2, sout0_B_0 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt0 c n (Nat.lt_of_succ_lt hn)).2)
      else
        False.elim (by have hN : n + 1 < 840 := lt_of_lt_of_eq hn (show cfg1.N = 840 from N_1); omega)

/-- `outsAt0` at a point of case A: that case's contents. -/
theorem outsAt0_A (c : Dev nD) (t : Fin cfg1.N) (h0 : t.val % 8 = 0) (h1 : ¬1 ≤ t.val % 8) (h2 : ¬t.val % 8 = 7) :
    outsAt0 V c t.val t.isLt = (out0_A_5 c (grid1.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (fun h => h2 ((hcond0_2 t).mp h)) (iblk V c 0 t) (iblk V c 1 t) (iblk V c 2 t) (iblk V c 3 t) (iblk V c 4 t), sout0_A_0 c (grid1.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (fun h => h2 ((hcond0_2 t).mp h)) (iblk V c 0 t) (iblk V c 1 t) (iblk V c 2 t) (iblk V c 3 t) (iblk V c 4 t)) := by
  obtain ⟨n, hn⟩ := t
  cases n with
  | zero => exact rfl
  | succ n => exact (dif_pos h0).trans ((dif_neg h1).trans ((dif_neg h2).trans rfl))

/-- `outsAt0` at a point of case B: that case's contents, over what the point before left. -/
theorem outsAt0_B (c : Dev nD) (t : Fin cfg1.N) (h0 : ¬t.val % 8 = 0) (h1 : 1 ≤ t.val % 8) (h2 : ¬t.val % 8 = 7) :
    outsAt0 V c t.val t.isLt = (out0_B_5 c (grid1.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (fun h => h2 ((hcond0_2 t).mp h)) (iblk V c 0 t) (iblk V c 1 t) (iblk V c 2 t) (iblk V c 3 t) (iblk V c 4 t) (outsAt0 V c (t.val - 1) (Nat.lt_of_le_of_lt (Nat.sub_le _ _) t.isLt)).2, sout0_B_0 c (grid1.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (fun h => h2 ((hcond0_2 t).mp h)) (iblk V c 0 t) (iblk V c 1 t) (iblk V c 2 t) (iblk V c 3 t) (iblk V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg1.N) (h0 : ¬t.val % 8 = 0) (h1 : 1 ≤ t.val % 8) (h2 : t.val % 8 = 7) :
    outsAt0 V c t.val t.isLt = (out0_C_5 c (grid1.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) ((hcond0_2 t).mpr h2) (iblk V c 0 t) (iblk V c 1 t) (iblk V c 2 t) (iblk V c 3 t) (iblk V c 4 t) (outsAt0 V c (t.val - 1) (Nat.lt_of_le_of_lt (Nat.sub_le _ _) t.isLt)).2, sout0_C_0 c (grid1.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) ((hcond0_2 t).mpr h2) (iblk V c 0 t) (iblk V c 1 t) (iblk V c 2 t) (iblk V c 3 t) (iblk V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg1.N → sProp 𝕄
  | 0, _ => Pipeline.ΦA spec1 c
  | n + 1, hn => iprop(iprop(owns (c : Thread nD τ) scM0_0 fullShare ((outsAt0 V c n hn).2)) ∗ Oth c)

theorem PhiS_zero (c : Dev nD) (n : ℕ) (h : n ≤ cfg1.N) (hz : n = 0) : PhiS V c n h = Pipeline.ΦA spec1 c := by
  subst hz; rfl

/-- After point `n` (before point `n + 1`): the carried scratch at that point's contents. -/
theorem PhiS_succ (c : Dev nD) (n : ℕ) (hn : n < cfg1.N) :
    PhiS V c (n + 1) hn = iprop(iprop(owns (c : Thread nD τ) scM0_0 fullShare ((outsAt0 V c n hn).2)) ∗ Oth c) := rfl

/-- Before a point that is not the first: the carried scratch at what the point before left. -/
theorem PhiS_pos (c : Dev nD) (n : ℕ) (h : n ≤ cfg1.N) (hz : n ≠ 0) :
    PhiS V c n h = iprop(iprop(owns (c : Thread nD τ) scM0_0 fullShare ((outsAt0 V c (n - 1) (by omega)).2)) ∗ Oth c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt0 V c t.val t.isLt).1
  Φ t := PhiS V c t.val (Nat.le_of_lt_succ t.isLt)
  q w := Pipeline.shareOf spec1 w
  owed _ := 0

/-- The proof data's arrays are the region-entry contents: the proof data's definition projected (`dsimp`), so that
    `V` — a fold over @main's host prefix, long for some programs — is never unfolded to check it. -/
theorem A_eq (c : Dev nD) (w : Fin cfg1.W) : (dat V c).A w = V c (Pipeline.arrRef spec1 w) := by
  dsimp only [dat]

/-- The invariant at a point's start (the proof data at `t.castSucc`), restated at `t.val`. -/
theorem PhiS_castSucc (c : Dev nD) (t : Fin cfg1.N) :
    (dat V c).Φ t.castSucc = PhiS V c t.val (Nat.le_of_lt t.isLt) := by
  dsimp only [dat]; exact Pipeline.Dat.Φ_castSucc (PhiS V c) t

/-- What the body leaves, window by window (the proof data's `match` reduced by `dsimp`). -/
theorem after0_0 (c : Dev nD) (t : Fin cfg1.N) : (dat V c).after 0 t = iblk V c 0 t := by dsimp only [dat]
theorem after0_1 (c : Dev nD) (t : Fin cfg1.N) : (dat V c).after 1 t = iblk V c 1 t := by dsimp only [dat]
theorem after0_2 (c : Dev nD) (t : Fin cfg1.N) : (dat V c).after 2 t = iblk V c 2 t := by dsimp only [dat]
theorem after0_3 (c : Dev nD) (t : Fin cfg1.N) : (dat V c).after 3 t = iblk V c 3 t := by dsimp only [dat]
theorem after0_4 (c : Dev nD) (t : Fin cfg1.N) : (dat V c).after 4 t = iblk V c 4 t := by dsimp only [dat]
theorem after0_5 (c : Dev nD) (t : Fin cfg1.N) : (dat V c).after 5 t = (outsAt0 V c t.val t.isLt).1 := by dsimp only [dat]

/-- Each input's current staging buffer holds its block at every point, fetched there or not (`beforeK_W_of`). -/
theorem before0_0 (c : Dev nD) (t : Fin cfg1.N) (d) : (dat V c).before 0 t d = iblk V c 0 t :=
  before0_0_of V (dat V c) (A_eq V c 0) (after0_0 V c) t d
theorem before0_1 (c : Dev nD) (t : Fin cfg1.N) (d) : (dat V c).before 1 t d = iblk V c 1 t :=
  before0_1_of V (dat V c) (A_eq V c 1) (after0_1 V c) t d
theorem before0_2 (c : Dev nD) (t : Fin cfg1.N) (d) : (dat V c).before 2 t d = iblk V c 2 t :=
  before0_2_of V (dat V c) (A_eq V c 2) (after0_2 V c) t d
theorem before0_3 (c : Dev nD) (t : Fin cfg1.N) (d) : (dat V c).before 3 t d = iblk V c 3 t :=
  before0_3_of V (dat V c) (A_eq V c 3) (after0_3 V c) t d
theorem before0_4 (c : Dev nD) (t : Fin cfg1.N) (d) : (dat V c).before 4 t d = iblk V c 4 t :=
  before0_4_of V (dat V c) (A_eq V c 4) (after0_4 V c) t d

/-! ## The body obligation, at a generic point -/

/-- What the body is called with at point `t` (Lib/Pipeline.lean `BodyObligation`'s precondition, the windows one by one), -/
def bodyPre (c : Dev nD) (t : Fin cfg1.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d))
    ∗ (∃ d, owns (c : Thread nD τ) (ms0_5 t) fullShare ((dat V c).before 5 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0_0, before0_1, before0_2, before0_3, before0_4]
  rw [show (dat V c).owesAt () t.succ = (dat V c).owesAt () t.castSucc from rfl]
  rw [show (dat V c).Φ t.succ = PhiS V c (t.val + 1) t.isLt from rfl, PhiS_succ]
  have hN : t.val < 840 := lt_of_lt_of_eq t.isLt (show cfg1.N = 840 from N_1)
  by_cases h0 : t.val % 8 = 0
  · by_cases h1 : 1 ≤ t.val % 8
    · exfalso; omega
    · by_cases h2 : t.val % 8 = 7
      · exfalso; omega
      · rw [show (dat V c).leavesExact 0 t = owns (c : Thread nD τ) (ms0_0 t) fullShare ((dat V c).after 0 t) from by
      unfold Dat.leavesExact; rw [liveAt0_0 t], after0_0]
        rw [show (dat V c).leavesExact 1 t = owns (c : Thread nD τ) (ms0_1 t) fullShare ((dat V c).after 1 t) from by
      unfold Dat.leavesExact; rw [liveAt0_1 t], after0_1]
        rw [show (dat V c).leavesExact 2 t = owns (c : Thread nD τ) (ms0_2 t) fullShare ((dat V c).after 2 t) from by
      unfold Dat.leavesExact; rw [liveAt0_2 t], after0_2]
        rw [show (dat V c).leavesExact 3 t = owns (c : Thread nD τ) (ms0_3 t) fullShare ((dat V c).after 3 t) from by
      unfold Dat.leavesExact; rw [liveAt0_3 t], after0_3]
        rw [show (dat V c).leavesExact 4 t = owns (c : Thread nD τ) (ms0_4 t) fullShare ((dat V c).after 4 t) from by
      unfold Dat.leavesExact; rw [liveAt0_4 t], after0_4]
        rw [Dat.leavesExact_idle (dat V c) 5 t (idleAt0_5_A t ((hcond0_0 t).mpr h0) (fun h => h1 ((hcond0_1 t).mp h)) (fun h => h2 ((hcond0_2 t).mp h))) (noFlush0_5_A t ((hcond0_0 t).mpr h0) (fun h => h1 ((hcond0_1 t).mp h)) (fun h => h2 ((hcond0_2 t).mp h)))]
        by_cases hz : t.val = 0
        · rw [PhiS_castSucc V c t, PhiS_zero V c _ _ hz, PhiA0_eq]
          rw [outsAt0_A V c t h0 h1 h2]
          unfold sout0_A_0; (try dsimp only)
          iintro ⟨⟨HS0, Hg⟩, Ho, ⟨%d0, H0⟩, ⟨%d1, H1⟩, ⟨%d2, H2⟩, ⟨%d3, H3⟩, ⟨%d4, H4⟩, ⟨%d5, H5⟩⟩
          iapply ((kernelRun0_A c (grid1.coords t) _ _ _ _ _ _ _ _ _ _ _ _ _ _ ((hcond0_0 t).mpr h0) (fun h => h1 ((hcond0_1 t).mp h)) (fun h => h2 ((hcond0_2 t).mp h)) (iblk V c 0 t) (iblk V c 1 t) (iblk V c 2 t) (iblk V c 3 t) (iblk V c 4 t)).2.2 _ Set.univ _)
          isplitl [H0]; · iexact H0
          isplitl [H1]; · iexact H1
          isplitl [H2]; · iexact H2
          isplitl [H3]; · iexact H3
          isplitl [H4]; · iexact H4
          isplitl [H5]; · iexact H5
          isplitl [HS0]; · iexact HS0
          iintro ⟨H0, H1, H2, H3, H4, H5, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          iexists _; iexact H5
        · rw [PhiS_castSucc V c t, PhiS_pos V c _ _ hz]
          rw [outsAt0_A V c t h0 h1 h2]
          unfold sout0_A_0; (try dsimp only)
          iintro ⟨⟨HS0, Hg⟩, Ho, ⟨%d0, H0⟩, ⟨%d1, H1⟩, ⟨%d2, H2⟩, ⟨%d3, H3⟩, ⟨%d4, H4⟩, ⟨%d5, H5⟩⟩
          iapply ((kernelRun0_A c (grid1.coords t) _ _ _ _ _ _ _ _ _ _ _ _ _ _ ((hcond0_0 t).mpr h0) (fun h => h1 ((hcond0_1 t).mp h)) (fun h => h2 ((hcond0_2 t).mp h)) (iblk V c 0 t) (iblk V c 1 t) (iblk V c 2 t) (iblk V c 3 t) (iblk V c 4 t)).2.2 _ Set.univ _)
          isplitl [H0]; · iexact H0
          isplitl [H1]; · iexact H1
          isplitl [H2]; · iexact H2
          isplitl [H3]; · iexact H3
          isplitl [H4]; · iexact H4
          isplitl [H5]; · iexact H5
          isplitl [HS0]; · iexists _; iexact HS0
          iintro ⟨H0, H1, H2, H3, H4, H5, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          iexists _; iexact H5
  · by_cases h1 : 1 ≤ t.val % 8
    · by_cases h2 : t.val % 8 = 7
      · rw [show (dat V c).leavesExact 0 t = owns (c : Thread nD τ) (ms0_0 t) fullShare ((dat V c).after 0 t) from by
      unfold Dat.leavesExact; rw [liveAt0_0 t], after0_0]
        rw [show (dat V c).leavesExact 1 t = owns (c : Thread nD τ) (ms0_1 t) fullShare ((dat V c).after 1 t) from by
      unfold Dat.leavesExact; rw [liveAt0_1 t], after0_1]
        rw [show (dat V c).leavesExact 2 t = owns (c : Thread nD τ) (ms0_2 t) fullShare ((dat V c).after 2 t) from by
      unfold Dat.leavesExact; rw [liveAt0_2 t], after0_2]
        rw [show (dat V c).leavesExact 3 t = owns (c : Thread nD τ) (ms0_3 t) fullShare ((dat V c).after 3 t) from by
      unfold Dat.leavesExact; rw [liveAt0_3 t], after0_3]
        rw [show (dat V c).leavesExact 4 t = owns (c : Thread nD τ) (ms0_4 t) fullShare ((dat V c).after 4 t) from by
      unfold Dat.leavesExact; rw [liveAt0_4 t], after0_4]
        rw [show (dat V c).leavesExact 5 t = owns (c : Thread nD τ) (ms0_5 t) fullShare ((dat V c).after 5 t) from by
      unfold Dat.leavesExact; rw [liveAt0_5_C t (fun h => h0 ((hcond0_0 t).mp h)) ((hcond0_1 t).mpr h1) ((hcond0_2 t).mpr h2)], after0_5]
        by_cases hz : t.val = 0
        · exfalso; have hN : t.val < 840 := lt_of_lt_of_eq t.isLt (show cfg1.N = 840 from N_1); omega
        · rw [PhiS_castSucc V c t, PhiS_pos V c _ _ hz]
          rw [outsAt0_C V c t h0 h1 h2]
          unfold out0_C_5 sout0_C_0; (try dsimp only)
          iintro ⟨⟨HS0, Hg⟩, Ho, ⟨%d0, H0⟩, ⟨%d1, H1⟩, ⟨%d2, H2⟩, ⟨%d3, H3⟩, ⟨%d4, H4⟩, ⟨%d5, H5⟩⟩
          iapply ((kernelRun0_C c (grid1.coords t) _ _ _ _ _ _ _ _ _ _ _ _ _ _ (fun h => h0 ((hcond0_0 t).mp h)) ((hcond0_1 t).mpr h1) ((hcond0_2 t).mpr h2) (iblk V c 0 t) (iblk V c 1 t) (iblk V c 2 t) (iblk V c 3 t) (iblk V c 4 t) _).2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          iintro ⟨H0, H1, H2, H3, H4, ⟨%e5, H5⟩, ⟨%es0, HS0⟩⟩
          isplitl [HS0 Hg]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          unfold owns; iexists _; isplitr
          swap; · iexact H5
          ipureintro; exact View.read_writes_of_cover _ _ _ _ _ (cover0_C_5 c _ _ _ _ _ _ _ _ _ _ _ _ _ _ _ _ _ _ _ _ _ _ _ _)
      · rw [show (dat V c).leavesExact 0 t = owns (c : Thread nD τ) (ms0_0 t) fullShare ((dat V c).after 0 t) from by
      unfold Dat.leavesExact; rw [liveAt0_0 t], after0_0]
        rw [show (dat V c).leavesExact 1 t = owns (c : Thread nD τ) (ms0_1 t) fullShare ((dat V c).after 1 t) from by
      unfold Dat.leavesExact; rw [liveAt0_1 t], after0_1]
        rw [show (dat V c).leavesExact 2 t = owns (c : Thread nD τ) (ms0_2 t) fullShare ((dat V c).after 2 t) from by
      unfold Dat.leavesExact; rw [liveAt0_2 t], after0_2]
        rw [show (dat V c).leavesExact 3 t = owns (c : Thread nD τ) (ms0_3 t) fullShare ((dat V c).after 3 t) from by
      unfold Dat.leavesExact; rw [liveAt0_3 t], after0_3]
        rw [show (dat V c).leavesExact 4 t = owns (c : Thread nD τ) (ms0_4 t) fullShare ((dat V c).after 4 t) from by
      unfold Dat.leavesExact; rw [liveAt0_4 t], after0_4]
        rw [Dat.leavesExact_idle (dat V c) 5 t (idleAt0_5_B t (fun h => h0 ((hcond0_0 t).mp h)) ((hcond0_1 t).mpr h1) (fun h => h2 ((hcond0_2 t).mp h))) (noFlush0_5_B t (fun h => h0 ((hcond0_0 t).mp h)) ((hcond0_1 t).mpr h1) (fun h => h2 ((hcond0_2 t).mp h)))]
        by_cases hz : t.val = 0
        · exfalso; have hN : t.val < 840 := lt_of_lt_of_eq t.isLt (show cfg1.N = 840 from N_1); omega
        · rw [PhiS_castSucc V c t, PhiS_pos V c _ _ hz]
          rw [outsAt0_B V c t h0 h1 h2]
          unfold sout0_B_0; (try dsimp only)
          iintro ⟨⟨HS0, Hg⟩, Ho, ⟨%d0, H0⟩, ⟨%d1, H1⟩, ⟨%d2, H2⟩, ⟨%d3, H3⟩, ⟨%d4, H4⟩, ⟨%d5, H5⟩⟩
          iapply ((kernelRun0_B c (grid1.coords t) _ _ _ _ _ _ _ _ _ _ _ _ _ _ (fun h => h0 ((hcond0_0 t).mp h)) ((hcond0_1 t).mpr h1) (fun h => h2 ((hcond0_2 t).mp h)) (iblk V c 0 t) (iblk V c 1 t) (iblk V c 2 t) (iblk V c 3 t) (iblk V c 4 t) _).2.2 _ Set.univ _)
          isplitl [H0]; · iexact H0
          isplitl [H1]; · iexact H1
          isplitl [H2]; · iexact H2
          isplitl [H3]; · iexact H3
          isplitl [H4]; · iexact H4
          isplitl [H5]; · iexact H5
          isplitl [HS0]; · iexact HS0
          iintro ⟨H0, H1, H2, H3, H4, H5, ⟨%es0, HS0⟩⟩
          isplitl [HS0 Hg]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          iexists _; iexact H5
    · exfalso; omega

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

/-- What the launch hands the region (`ΦA`) is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA0_eq]
  iintro ⟨HS0, Hg⟩
  isplitl [HS0]
  · iexists _; iexact HS0
  iexact Hg

/-- The same after the last point. -/
theorem hout (c : Dev nD) : (dat V c).Φ (Fin.last cfg1.N) ⊢ Pipeline.ΦA spec1 c :=
  Phi_out V c _ (by rw [Fin.val_last]; have : cfg1.N = 840 := N_1; omega)

end Cert.KernelIdeal.R1

end
-- ==== Proof.KernelIdealLaunch.lean ====
/- The launch of the two kernel calls: the records of both regions, and what every final state holds. -/
module

public import proofs.«01_k».proof.Proof.Gen.KernelIdeal.Regions
public import proofs.«01_k».proof.Proof.KernelIdealR0Frame
public import proofs.«01_k».proof.Proof.KernelIdealR1Frame
public import Idealize.ShloMosaic.Lib.Pipeline.RegionArrays
public import Idealize.ShloMosaic.Lib.Pipeline.RegionsLoop
public import Idealize.ShloMosaic.Lib.Pipeline.Kit

@[expose] public section

set_option maxRecDepth 16384

noncomputable section

namespace Cert.KernelIdeal.Launch

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## What the two calls leave -/

/-- The buffers the first call is entered with. -/
abbrev W1 (c : Dev nD) (b : Ref sig .tc) : Buf (Elt F) ((c : Thread nD τ).loc b) := V1 m c b
/-- The buffers the second call is entered with. -/
abbrev W3 (outs : Outs (F := F)) (c : Dev nD) (b : Ref sig .tc) : Buf (Elt F) ((c : Thread nD τ).loc b) := V3 m outs c b

/-- What the first call leaves: its two result arrays after every write-back; anything else is left alone. -/
def outs1 : Outs (F := F) := fun _ r c =>
  if h : r = main_v1_0 then h ▸ (R0.dat (W1 m) c).arrAt 2 cfg0.N
  else if h : r = main_v1_1 then h ▸ (R0.dat (W1 m) c).arrAt 3 cfg0.N
  else V1 m c r

/-- What each call leaves. -/
def outs : Outs (F := F) := fun J r c =>
  if J = 2 then outs1 m J r c
  else if h : r = main_v3 then h ▸ (R1.dat (W3 m (outs1 m)) c).arrAt 5 cfg1.N
  else V1 m c r

theorem outs_2 (r : Ref sig .tc) (c : Dev nD) : outs m 2 r c = outs1 m 2 r c := by
  unfold outs; rw [if_pos rfl]

theorem outs_2_0 (c : Dev nD) : outs m 2 main_v1_0 c = (R0.dat (W1 m) c).arrAt 2 cfg0.N := by
  rw [outs_2]; unfold outs1; rw [dif_pos rfl]

theorem outs_2_1 (c : Dev nD) : outs m 2 main_v1_1 c = (R0.dat (W1 m) c).arrAt 3 cfg0.N := by
  rw [outs_2]; unfold outs1; rw [dif_neg (by decide), dif_pos rfl]

/-- The second call is entered from what the first one and the host stretch between leave. -/
theorem V3_outs (c : Dev nD) : V3 m (outs m) c = V3 m (outs1 m) c := by
  unfold V3 V2; rw [outs_2, outs_2]

theorem outs_4 (c : Dev nD) : outs m 4 main_v3 c = (R1.dat (W3 m (outs m)) c).arrAt 5 cfg1.N := by
  rw [show W3 m (outs m) = W3 m (outs1 m) from by funext c b; unfold W3; rw [V3_outs]]
  unfold outs; rw [if_neg (by decide), dif_pos rfl]

/-! ## The two regions -/

/-- The proof data of both calls. -/
def pdats : (p : Fin 2) → (c : Dev nD) → Dat τ (Elt F) Unit ℕ (UR sig nD τ) ℕ (cfgs p) c
  | 0 => R0.dat (W1 m)
  | 1 => R1.dat (W3 m (outs m))

/-- Beside the buffers a core holds its generator register and owes nothing. -/
abbrev E : Fin 3 → Dev nD → sProp 𝕄 := fun _ c =>
  iprop((∃ r, prngReg c r) ∗ ∃ W, owes (c : Thread nD τ) (0 : CellTallies nD τ sig Unit) W)

abbrev L : GSem nD τ sig → Finset Unit := fun _ => ∅
abbrev lv : GSem nD τ sig → Unit → ℕ := fun _ _ => 0

/-- The core's `owes` as a pipeline point's. -/
theorem owesAt_intro {cfg : Pipeline.Cfg sig Λ₀} {c : Dev nD} (dat : Dat τ (Elt F) Unit ℕ (UR sig nD τ) ℕ cfg c) (t : Fin (cfg.N + 1))
    (h0 : dat.owed t = 0) (hr : dat.recorded t = Set.univ) :
    iprop(∃ W, owes (c : Thread nD τ) (0 : CellTallies nD τ sig Unit) W) ⊢ (dat.owesAt () t : sProp 𝕄) := by
  unfold Pipeline.Dat.owesAt Pipeline.owesWithin Pipeline.Dat.bound; rw [h0, hr]
  iintro ⟨%W, HO⟩; iexists W; isplitr; · ipureintro; exact fun _ _ => Or.inl trivial
  iexact HO

theorem owesAt_elim {cfg : Pipeline.Cfg sig Λ₀} {c : Dev nD} (dat : Dat τ (Elt F) Unit ℕ (UR sig nD τ) ℕ cfg c) (t : Fin (cfg.N + 1))
    (h0 : dat.owed t = 0) :
    (dat.owesAt () t : sProp 𝕄) ⊢ iprop(∃ W, owes (c : Thread nD τ) (0 : CellTallies nD τ sig Unit) W) := by
  unfold Pipeline.Dat.owesAt Pipeline.owesWithin; rw [h0]
  iintro ⟨%W, -, HO⟩; iexists W; iexact HO

theorem arrays0_entry (c : Dev nD) : (StableHlo.held (c : Thread nD τ) (Pipeline.ucRefs τ sig) (V1 m c) : sProp 𝕄)
    ⊢ iprop((pdats m 0 c).arrays ((pdats m 0 c).arrAt · 0) ∗ Pipeline.unscopedRest spec0 c (fun b => V1 m c b)) := by
  rw [← Pipeline.unscopedBufs_held]
  exact Pipeline.arrays_of_unscopedBufs (pcfgs (F := F)) adm (pdats m) (p := 0) winFacts0 arr_whole0 c
    (fun w => (pdats m 0 c).share_full (fun _ => rfl) w) (fun b => V1 m c b) (fun w => R0.A_eq (W1 m) c w)

/-- An operand of the first call ends as the call found it. -/
theorem arr_in0 (c : Dev nD) (w : Fin 4) (h : (cfg0.win w).isOut = false) :
    (pdats m 0 c).arrAt w cfg0.N = V1 m c (Pipeline.arrRef spec0 w) :=
  ((pdats m 0 c).arrAt_in w h _).trans (R0.A_eq (W1 m) c w)

theorem arrays0_exit (c : Dev nD) :
    iprop((pdats m 0 c).arrays ((pdats m 0 c).arrAt · cfg0.N) ∗ Pipeline.unscopedRest spec0 c (fun b => V1 m c b))
      ⊢ (StableHlo.held (c : Thread nD τ) (Pipeline.ucRefs τ sig) (V2 m (outs m) c) : sProp 𝕄) := by
  rw [← Pipeline.unscopedBufs_held]
  refine Pipeline.unscopedBufs_of_arrays (pcfgs (F := F)) adm (p := 0) winFacts0 arr_whole0 c (pdats m)
    (fun w => (pdats m 0 c).share_full (fun _ => rfl) w) (fun b => V1 m c b) (fun b => V2 m (outs m) c b) _ (fun w => ?_) (fun b hb => ?_)
  · fin_cases w
    · exact (arr_in0 m c 0 rfl).trans (V2_of m (outs m) c main_v0 (by decide)).symm
    · exact (arr_in0 m c 1 rfl).trans (V2_of m (outs m) c main_cst (by decide)).symm
    · exact (show _ = V2 m (outs m) c main_v1_0 from by
        unfold V2
        rw [Function.update_of_ne (StableHlo.devRef_ne_of_ne (by decide)), Function.update_self, outs_2_0]; rfl)
    · exact (show _ = V2 m (outs m) c main_v1_1 from by
        unfold V2
        rw [Function.update_self, outs_2_1]; rfl)
  · refine V2_of m (outs m) c b fun h => hb ?_
    rcases List.mem_cons.mp h with rfl | h
    · exact Finset.mem_image.mpr ⟨2, Finset.mem_univ _, rfl⟩
    · rcases List.mem_cons.mp h with rfl | h
      · exact Finset.mem_image.mpr ⟨3, Finset.mem_univ _, rfl⟩
      · exact absurd h List.not_mem_nil

theorem arrays1_entry (c : Dev nD) : (StableHlo.held (c : Thread nD τ) (Pipeline.ucRefs τ sig) (V3 m (outs m) c) : sProp 𝕄)
    ⊢ iprop((pdats m 1 c).arrays ((pdats m 1 c).arrAt · 0) ∗ Pipeline.unscopedRest spec1 c (fun b => V3 m (outs m) c b)) := by
  rw [← Pipeline.unscopedBufs_held]
  exact Pipeline.arrays_of_unscopedBufs_shared (pcfgs (F := F)) adm (pdats m) (p := 1) winFacts₀1 sharedIn1 arr_whole1 c
    (fun w _ => rfl) (fun b => V3 m (outs m) c b) (fun w => R1.A_eq (W3 m (outs m)) c w)

/-- An operand of the second call ends as the call found it. -/
theorem arr_in1 (c : Dev nD) (w : Fin 6) (h : (cfg1.win w).isOut = false) :
    (pdats m 1 c).arrAt w cfg1.N = V3 m (outs m) c (Pipeline.arrRef spec1 w) :=
  ((pdats m 1 c).arrAt_in w h _).trans (R1.A_eq (W3 m (outs m)) c w)

theorem arrays1_exit (c : Dev nD) :
    iprop((pdats m 1 c).arrays ((pdats m 1 c).arrAt · cfg1.N) ∗ Pipeline.unscopedRest spec1 c (fun b => V3 m (outs m) c b))
      ⊢ (StableHlo.held (c : Thread nD τ) (Pipeline.ucRefs τ sig) (V4 m (outs m) c) : sProp 𝕄) := by
  rw [← Pipeline.unscopedBufs_held]
  refine Pipeline.unscopedBufs_of_arrays_shared (pcfgs (F := F)) adm (p := 1) winFacts₀1 sharedIn1 arr_whole1 c (pdats m)
    (fun w _ => rfl) (fun b => V3 m (outs m) c b) (fun b => V4 m (outs m) c b) _ (fun w => ?_) (fun b hb => ?_)
  · fin_cases w
    · exact (arr_in1 m c 0 rfl).trans (V4_of m (outs m) c main_v1_0 (by decide)).symm
    · exact (arr_in1 m c 1 rfl).trans (V4_of m (outs m) c main_v1_0 (by decide)).symm
    · exact (arr_in1 m c 2 rfl).trans (V4_of m (outs m) c main_arg1 (by decide)).symm
    · exact (arr_in1 m c 3 rfl).trans (V4_of m (outs m) c main_v1_1 (by decide)).symm
    · exact (arr_in1 m c 4 rfl).trans (V4_of m (outs m) c main_v2 (by decide)).symm
    · exact (show _ = V4 m (outs m) c main_v3 from by
        unfold V4
        rw [Function.update_self, outs_4]; rfl)
  · refine V4_of m (outs m) c b fun h => hb ?_
    rcases List.mem_cons.mp h with rfl | h
    · exact Finset.mem_image.mpr ⟨5, Finset.mem_univ _, rfl⟩
    · exact absurd h List.not_mem_nil

/-- The first call's region, from every buffer held at `V1` to every buffer held at `V2`. -/
def reg0 : RegionSeg (pcfgs (F := F)) adm (pdats m) () defs₀ Variants.none L lv 0 where
  win := winFacts0.to₀
  block_pos := block_pos0
  stage_whole := stage_whole0
  K := PEmpty
  osem k := k.elim
  ho := Pipeline.OwnSemFacts.none _
  hbody c := (R0.body_obligation _ c).loose
  hwaits := Pipeline.hwaits_of_owed_zero _ _ _ _ L lv 0 fun _ _ => rfl
  pre c := iprop(StableHlo.held (c : Thread nD τ) (Pipeline.ucRefs τ sig) (V1 m c) ∗ E 0 c)
  post c := iprop(StableHlo.held (c : Thread nD τ) (Pipeline.ucRefs τ sig) (V2 m (outs m) c) ∗ E 1 c)
  X c := iprop(∃ r, prngReg c r)
  Y c := iprop(∃ r, prngReg c r)
  Z c := Pipeline.unscopedRest spec0 c (fun b => V1 m c b)
  hentry c := by
    rw [Pipeline.ownSems0_none, Pipeline.prefHeld_of_none _ rfl]
    iintro ⟨⟨Hh, Hp, HO⟩, -, -⟩
    ihave Ha := (arrays0_entry m c) $$ Hh
    icases Ha with ⟨Ha, HZ⟩
    imodintro
    isplitl [Ha]; · iexact Ha
    isplitr; · iempintro
    isplitl [HO]; · iapply (owesAt_intro (pdats m 0 c) 0 rfl rfl); iexact HO
    isplitl [Hp]; · iexact Hp
    iexact HZ
  hin c := by
    rw [show (pdats m 0 c).Φ 0 = Pipeline.ΦA spec0 c from rfl]
    unfold Pipeline.ΦA
    iintro ⟨HX, -, Hr⟩
    isplitl [Hr]; · iexact Hr
    iexact HX
  hout c := by
    rw [show (pdats m 0 c).Φ (Fin.last _) = Pipeline.ΦA spec0 c from rfl, Pipeline.ownSems0_none]
    unfold Pipeline.ΦA
    iintro ⟨Hr, HY⟩
    isplitl [HY]; · iexact HY
    isplitr; · iempintro
    iexact Hr
  hexit c := by
    iintro ⟨Ha, HO, HY, HZ⟩
    imodintro
    isplitl [Ha HZ]
    · iapply (arrays0_exit m c)
      isplitl [Ha]; · iexact Ha
      iexact HZ
    isplitl [HY]; · iexact HY
    iapply (owesAt_elim (pdats m 0 c) _ rfl); iexact HO

/-- The second call's region, from every buffer held at `V3` to every buffer held at `V4`. -/
def reg1 : RegionSeg (pcfgs (F := F)) adm (pdats m) () defs₀ Variants.none L lv 1 where
  win := winFacts₀1
  block_pos := block_pos1
  stage_whole := stage_whole1
  K := PEmpty
  osem k := k.elim
  ho := Pipeline.OwnSemFacts.none _
  hbody c := (R1.body_obligation _ c).loose
  hwaits := Pipeline.hwaits_of_owed_zero _ _ _ _ L lv 1 fun _ _ => rfl
  pre c := iprop(StableHlo.held (c : Thread nD τ) (Pipeline.ucRefs τ sig) (V3 m (outs m) c) ∗ E 1 c)
  post c := iprop(StableHlo.held (c : Thread nD τ) (Pipeline.ucRefs τ sig) (V4 m (outs m) c) ∗ E 2 c)
  X c := iprop(∃ r, prngReg c r)
  Y c := iprop(∃ r, prngReg c r)
  Z c := Pipeline.unscopedRest spec1 c (fun b => V3 m (outs m) c b)
  hentry c := by
    rw [Pipeline.ownSems0_none, Pipeline.prefHeld_of_none _ rfl]
    iintro ⟨⟨Hh, Hp, HO⟩, -, -⟩
    ihave Ha := (arrays1_entry m c) $$ Hh
    icases Ha with ⟨Ha, HZ⟩
    imodintro
    isplitl [Ha]; · iexact Ha
    isplitr; · iempintro
    isplitl [HO]; · iapply (owesAt_intro (pdats m 1 c) 0 rfl rfl); iexact HO
    isplitl [Hp]; · iexact Hp
    iexact HZ
  hin c := by
    refine BIBase.Entails.trans ?_ (R1.hin (W3 m (outs m)) c)
    unfold Pipeline.ΦA
    iintro ⟨HX, -, Hr⟩
    isplitl [Hr]; · iexact Hr
    iexact HX
  hout c := by
    refine (R1.hout (W3 m (outs m)) c).trans ?_
    rw [Pipeline.ownSems0_none]
    unfold Pipeline.ΦA
    iintro ⟨Hr, HY⟩
    isplitl [HY]; · iexact HY
    isplitr; · iempintro
    iexact Hr
  hexit c := by
    iintro ⟨Ha, HO, HY, HZ⟩
    imodintro
    isplitl [Ha HZ]
    · iapply (arrays1_exit m c)
      isplitl [Ha]; · iexact Ha
      iexact HZ
    isplitl [HY]; · iexact HY
    iapply (owesAt_elim (pdats m 1 c) _ rfl); iexact HO

/-! ## The run -/

-- the implicit arguments are found by unifying the conclusions, which takes unfolding plain definitions
set_option backward.isDefEq.respectTransparency.types false in
/-- Every weakly fair execution from zero counters terminates, each argument ends as launched, each result is read off
    the last contents `V5`, and every counter ends at zero. -/
theorem run (ρ : Dev nD → PrngReg) :
    θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ (r.2.mem ((c.tc : Thread nD τ).loc main_v4) = V5 m (outs m) c main_v4
      ∧ r.2.mem ((c.tc : Thread nD τ).loc main_v5) = V5 m (outs m) c main_v5
      ∧ r.2.mem ((c.tc : Thread nD τ).loc main_v6) = V5 m (outs m) c main_v6))
      ∧ r.2.sem = fun _ => 0) := by
  refine Pipeline.θ_run_regions_kit_dev_sems (pcfgs (F := F)) adm (pdats m) () cellOf_inj emb₁ defs₀ Variants.none L lv m ρ main
    (segs m (outs m) Variants.none L lv E () (pdats m) (reg0 m) (reg1 m))
    (fun c Q => by
      rewrite [main_chain c, Seg.run_eq_chain,
        show (segs m (outs m) Variants.none L lv E () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0) (fun _ _ => rfl)
    (fun _ => iprop(emp)) (initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V5 m (outs m) c))
    (hch := fun c => ⟨.rfl, .rfl, .rfl, .rfl, .rfl, sep_mono .rfl (show E 2 c ⊢ (iprop(∃ W, owes (c : Thread nD τ) (0 : CellTallies nD τ sig Unit) W) : sProp 𝕄) from by
      iintro ⟨-, HO⟩; iexact HO)⟩)
    (hinit := ?_) (QY := fun c s => (s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2))
      ∧ (s.mem ((c.tc : Thread nD τ).loc main_v4) = V5 m (outs m) c main_v4 ∧ s.mem ((c.tc : Thread nD τ).loc main_v5) = V5 m (outs m) c main_v5 ∧ s.mem ((c.tc : Thread nD τ).loc main_v6) = V5 m (outs m) c main_v6))
    (hfin := fun c s' => ?_) (hQ := fun _ h hz => ⟨h, funext fun g => hz g (.inr (regions_no_unscoped g.2))⟩)
  · -- the launch: the unscoped buffers are `held` at `V0`; the rest makes `E 0`
    have hc : ∀ c : Dev nD, iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp)
        ⊢ (iprop(StableHlo.held (c : Thread nD τ) (Pipeline.ucRefs τ sig) (V0 m c) ∗ E 0 c) : sProp 𝕄) := fun c => by
      rw [← Pipeline.unscopedBufs_held (Ix := Unit) (Name := ℕ) (U := UR sig nD τ) (Lvl := ℕ) c (V0 m c)]
      iintro ⟨Hb, -, HO, -, Hp, -⟩
      isplitl [Hb]; · iexact Hb
      isplitl [Hp]; · iexists _; iexact Hp
      iexists _; iexact HO
    iintro ⟨H, -⟩
    imodintro
    iapply (show (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp))
        ⊢ (bigSep Finset.univ fun c : Dev nD => iprop(StableHlo.held (c : Thread nD τ) (Pipeline.ucRefs τ sig) (V0 m c) ∗ E 0 c) : sProp 𝕄) from
      bigSep_mono fun c _ => hc c)
    iexact H
  · -- the end: arguments and results read off the last valuation
    unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      exact ⟨⟨(h (Proc.devRef .tc main_arg0) (Finset.mem_filter.mpr ⟨StableHlo.devRef_mem_tcRefs main_arg0, by decide⟩)).trans (V5_main_arg0 m (outs m) c),
        (h (Proc.devRef .tc main_arg1) (Finset.mem_filter.mpr ⟨StableHlo.devRef_mem_tcRefs main_arg1, by decide⟩)).trans (V5_main_arg1 m (outs m) c),
        (h (Proc.devRef .tc main_arg2) (Finset.mem_filter.mpr ⟨StableHlo.devRef_mem_tcRefs main_arg2, by decide⟩)).trans (V5_main_arg2 m (outs m) c)⟩,
        h (Proc.devRef .tc main_v4) (Finset.mem_filter.mpr ⟨StableHlo.devRef_mem_tcRefs main_v4, by decide⟩),
        h (Proc.devRef .tc main_v5) (Finset.mem_filter.mpr ⟨StableHlo.devRef_mem_tcRefs main_v5, by decide⟩),
        h (Proc.devRef .tc main_v6) (Finset.mem_filter.mpr ⟨StableHlo.devRef_mem_tcRefs main_v6, by decide⟩)⟩
    · iexact HSI

end Cert.KernelIdeal.Launch

end
-- ==== Proof.KernelIdealR0Words.lean ====
/- What one grid point of the rotate-and-quantise region leaves in its two outputs, as words over the rows it
   loads: the 72 chunks of a row rotated one by one, the running maximum over them, the scale and the codes. -/
module

public import proofs.«01_k».proof.Proof.KernelIdealR0Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.R0

open Cert.KernelIdeal.Gen
open Idealize.ShloMosaic Idealize.ShloMosaic.TcCoe Idealize.ShloMosaic.Tactic

variable {F : FTy → Type} [FloatOps F]

/-- One chunk of 256 lanes rotated: the product with the sign table, times the norm. -/
def rotC (x1 : Vec F S256x256 .bf16) (v : Vec F S128x256 .bf16) : FVec F S128x256 .f32 :=
  mulf (matmul dot_S128x256_S256x256_S128x256_1_0_0_1_n_n none v x1 (constant S128x256 .f32 0x00000000#32))
    (broadcast S128x256 (Scalar.ofBits .f32 0x3DB504F3#32))

/-- Chunk `n` of the rows. -/
def rowsChunk (x0 : Vec F S128x18432 .bf16) (n : ℕ) : Vec F S128x256 .bf16 := fun j =>
  x0 (ix2 (j 0) ⟨(256 * n + (j 1).val) % 18432, Nat.mod_lt _ (by decide)⟩)

/-- Chunk `n` of the rows, rotated. -/
def rotChunk (x0 : Vec F S128x18432 .bf16) (x1 : Vec F S256x256 .bf16) (n : ℕ) : FVec F S128x256 .f32 :=
  rotC x1 (rowsChunk x0 n)

/-- The rows rotated, chunk by chunk. -/
def rotW (x0 : Vec F S128x18432 .bf16) (x1 : Vec F S256x256 .bf16) : FVec F S128x18432 .f32 := fun y =>
  rotChunk x0 x1 ((y 1).val / 256) (ix2 (y 0) ⟨(y 1).val % 256, Nat.mod_lt _ (by decide)⟩)

/-- The running maximum of the magnitudes over the first `n` chunks. -/
def runMax (x0 : Vec F S128x18432 .bf16) (x1 : Vec F S256x256 .bf16) : ℕ → FVec F S128x256 .f32
  | 0 => broadcast S128x256 (Scalar.ofBits .f32 0x00000000#32)
  | n + 1 => maximumf (runMax x0 x1 n) (absf (rotChunk x0 x1 n))

/-- The scale of each row from the lane-wise maximum. -/
def scaleOf (v721 : FVec F S128x256 .f32) : FVec F S128x1 .f32 :=
  have v722 : FVec F S128 .f32 := multiReduction .maximumf [1] S128 v721 0xFF800000#32 reduces_S128x256_S128 (.inl rfl) rfl
  have v723 : FVec F S128x1 .f32 := shapeCast S128x1 v722 shapeCasts_S128_S128x1
  select (cmpf .oeq v723 (broadcast S128x1 (Scalar.ofBits .f32 0x00000000#32))) (broadcast S128x1 (Scalar.ofBits .f32 0x3F800000#32))
    (divf v723 (broadcast S128x1 (Scalar.ofBits .f32 0x42FE0000#32)))

/-- The codes of one chunk, from the scales and the rotated chunk. -/
def codesOf (v729 : FVec F S128x1 .f32) (v : FVec F S128x256 .f32) : IVec S128x256 8 :=
  fptosi 8 (minimumf (broadcast S128x256 (Scalar.sitofp .f32 127#32)) (maximumf (broadcast S128x256 (Scalar.sitofp .f32 4294967169#32))
    (roundeven (divf v (broadcastTo S128x256 v729 broadcasts_S128x1_S128x256)))))

/-- The code of a value at a scale. -/
def codeOf (v s : F .f32) : BitVec 8 :=
  FloatOps.fptosi 8 (FloatOps.minimumf (Scalar.sitofp .f32 127#32) (FloatOps.maximumf (Scalar.sitofp .f32 4294967169#32)
    (FloatOps.roundeven (FloatOps.divf v s))))

/-- The code of one element of the rotated rows. -/
def codesAt (s : FVec F S128x1 .f32) (v : FVec F S128x18432 .f32) (y : S128x18432.Idx) : BitVec 8 :=
  codeOf (v y) (s (ix2 (y 0) 0))

/-- A load of 256 lanes at a multiple of 256 is a chunk. -/
theorem ld_chunk (x0 : Vec F S128x18432 .bf16) (off : ℕ) (inb) (h : off % 256 = 0) :
    View.ld x0 (Rect.unit (s := S128x18432) ![0, off] S128x256.size inb) = rowsChunk x0 (off / 256) := by
  funext j
  refine View.ld_unit_apply_of x0 _ _ _ _ _ fun a => ?_
  have hb : off + 256 ≤ 18432 := inb 1
  have hj : (j 1).val < 256 := (j 1).isLt
  fin_cases a
  · show (j 0).val = 0 + (j 0).val
    omega
  · show (256 * (off / 256) + (j 1).val) % 18432 = off + (j 1).val
    omega

/-- The same, rotated. -/
theorem rotC_ld (x0 : Vec F S128x18432 .bf16) (x1 : Vec F S256x256 .bf16) (off : ℕ) (inb) (h : off % 256 = 0) :
    mulf (matmul dot_S128x256_S256x256_S128x256_1_0_0_1_n_n none (View.ld x0 (Rect.unit (s := S128x18432) ![0, off] S128x256.size inb)) x1
      (constant S128x256 .f32 0x00000000#32)) (broadcast S128x256 (Scalar.ofBits .f32 0x3DB504F3#32)) = rotChunk x0 x1 (off / 256) := by
  rw [ld_chunk x0 off inb h]; rfl

/-- A chunk at an index is the rotated rows at the index it names. -/
theorem rotChunk_apply (x0 : Vec F S128x18432 .bf16) (x1 : Vec F S256x256 .bf16) (n : ℕ) (x : S128x256.Idx) (y : S128x18432.Idx)
    (h0 : (y 0).val = (x 0).val) (h1 : (y 1).val = 256 * n + (x 1).val) : rotChunk x0 x1 n x = rotW x0 x1 y := by
  have hx : (x 1).val < 256 := (x 1).isLt
  have e : (y 1).val / 256 = n := by omega
  unfold rotW
  rw [e]
  congr 1
  funext a
  fin_cases a
  · exact Fin.ext h0.symm
  · refine Fin.ext ?_
    show (x 1).val = (y 1).val % 256
    omega

section Point

variable (c : Dev nD) (arg1 : Memref sig .tc .vmem S128x18432 .bf16) (harg1 : arg1.IsWhole) (arg2 : Memref sig .tc .vmem S256x256 .bf16) (harg2 : arg2.IsWhole)
    (arg5 : Memref sig .tc .vmem S128x18432 .f32) (x0 : Vec F S128x18432 .bf16) (x1 : Vec F S256x256 .bf16)

/-- The scratch after its 72 stores holds the rotated rows. -/
theorem scratch_eq (y : S128x18432.Idx) : View.canon (kernelRun0_A.sl.HS0_72 c arg1 harg1 arg2 harg2 x0 x1) y = rotW x0 x1 y := by
  frame_open
  simp (disch := decide) only [View.readAt_eq_ld, Memref.IsWhole.read_unread, View.ld_unit_lit']
  canon_tiles x h
  all_goals
    open_payloads
    simp (disch := decide) only [shapeCast_self, rotC_ld]
    refine rotChunk_apply _ _ _ _ _ ?_ ?_ <;> omega

/-- The scale word is the scale of the maximum over the 72 chunks. -/
theorem scale_eq : kernelRun0_A.sl.r_39 c arg1 harg1 arg2 harg2 x0 x1 = scaleOf (runMax x0 x1 72) := by
  frame_open
  simp (disch := decide) only [View.readAt_eq_ld, Memref.IsWhole.read_unread, View.ld_unit_lit']
  open_payloads
  simp (disch := decide) only [shapeCast_self, rotC_ld]
  rfl

/-- The rotated rows read back from the scratch. -/
theorem readBack (B : LoadRect S128x18432) : arg5.view.readCov (kernelRun0_A.sl.HS0_72 c arg1 harg1 arg2 harg2 x0 x1) B = fun j => rotW x0 x1 (B.idx j) := by
  rw [View.readCov_eq_canon']
  exact funext fun j => scratch_eq c arg1 harg1 arg2 harg2 x0 x1 _

/-- A load of 256 lanes of the rotated rows. -/
theorem codes_apply (s : FVec F S128x1 .f32) (off : ℕ) (inb) (x : S128x256.Idx) (y : S128x18432.Idx)
    (h0 : (y 0).val = (x 0).val) (h1 : (y 1).val = off + (x 1).val) :
    codesOf s (fun j => rotW x0 x1 ((Rect.unit (s := S128x18432) ![0, off] S128x256.size inb).toLoadRect.idx j)) x
      = codesAt s (rotW x0 x1) y := by
  have e : (Rect.unit (s := S128x18432) ![0, off] S128x256.size inb).toLoadRect.idx x = y := by
    funext a
    fin_cases a
    · refine Fin.ext ((Rect.idx_unit_val _ _ _ _ _).trans ?_)
      show 0 + (x 0).val = (y 0).val
      omega
    · refine Fin.ext ((Rect.idx_unit_val _ _ _ _ _).trans ?_)
      show off + (x 1).val = (y 1).val
      omega
  have b : broadcastTo S128x256 s broadcasts_S128x1_S128x256 x = s (ix2 (y 0) 0) := by
    pointwise []
    congr 1
    funext a
    fin_cases a
    · exact Fin.ext h0.symm
    · rfl
  exact congrArg₂ codeOf (congrArg (rotW x0 x1) e) b

/-- The codes of one chunk, read back from the scratch. -/
theorem codes_point (off : ℕ) (inb : ∀ a, (![0, off] : Fin 2 → ℕ) a + S128x256.size a ≤ S128x18432.size a) (x : S128x256.Idx) (y : S128x18432.Idx)
    (h0 : (y 0).val = (x 0).val) (h1 : (y 1).val = off + (x 1).val) :
    codesOf (kernelRun0_A.sl.r_39 c arg1 harg1 arg2 harg2 x0 x1)
        (arg5.view.readCov (kernelRun0_A.sl.HS0_72 c arg1 harg1 arg2 harg2 x0 x1) (Rect.unit (s := S128x18432) ![0, off] S128x256.size inb).toLoadRect) x
      = codesAt (kernelRun0_A.sl.r_39 c arg1 harg1 arg2 harg2 x0 x1) (rotW x0 x1) y := by
  rw [readBack]
  exact codes_apply x0 x1 _ off inb x y h0 h1

/-- The scales left by the point. -/
theorem out_scale (i : grid0.Coords) (arg3 : Memref sig .tc .vmem S128x18432 .i8) (harg3 : arg3.IsWhole) (arg4 : Memref sig .tc .vmem S128x1 .f32) (harg4 : arg4.IsWhole)
    (harg5 : arg5.IsWhole) :
    out0_A_3 c i arg1 harg1 arg2 harg2 arg3 harg3 arg4 harg4 arg5 harg5 x0 x1 = scaleOf (runMax x0 x1 72) := by
  unfold out0_A_3 kernelRun0_A
  dsimp only
  simp (disch := decide) only [View.read_writes_junk_eq_canon, View.canon_cons_unit_lit']
  exact scale_eq c arg1 harg1 arg2 harg2 x0 x1

/-- The codes left by the point. -/
theorem out_codes (i : grid0.Coords) (arg3 : Memref sig .tc .vmem S128x18432 .i8) (harg3 : arg3.IsWhole) (arg4 : Memref sig .tc .vmem S128x1 .f32) (harg4 : arg4.IsWhole)
    (harg5 : arg5.IsWhole) (y : S128x18432.Idx) :
    out0_A_2 c i arg1 harg1 arg2 harg2 arg3 harg3 arg4 harg4 arg5 harg5 x0 x1 y
      = codesAt (scaleOf (runMax x0 x1 72)) (rotW x0 x1) y := by
  rw [← scale_eq c arg1 harg1 arg2 harg2 x0 x1]
  unfold out0_A_2 kernelRun0_A
  dsimp only
  simp only [View.read_writes_junk_eq_canon]
  canon_tiles x h
  all_goals
    first
    | exact codes_point c arg1 harg1 arg2 harg2 arg5 x0 x1 _ (by decide) x y h0 h1
    | exact codes_point c arg1 harg1 arg2 harg2 arg5 x0 x1 0 (by decide) x y h0 (by omega)

end Point

end Cert.KernelIdeal.R0

end
-- ==== Proof.Bits.lean ====
/- The nibbles of a byte, cut out of a 32-bit word of four bytes, and the byte read as a signed number. -/
module

public import Idealize.ShloMosaic.Lib.BitcastFour

@[expose] public section

namespace Cert.Bits

open Idealize.ShloMosaic Idealize.ShloMosaic.ValueIdx

/-- The low nibble of a byte as a signed number from -8 to 7. -/
def nibLo (b : BitVec 8) : ℤ := (b.extractLsb' 0 4).toInt

/-- The high nibble of a byte as a signed number from -8 to 7. -/
def nibHi (b : BitVec 8) : ℤ := (b.extractLsb' 4 4).toInt

/-- The low nibble moved to the top of the byte is sixteen times the signed nibble. -/
theorem toInt_lo (b : BitVec 8) : ((b <<< 4) &&& 240#8).toInt = 16 * nibLo b := by
  have h : ∀ b : BitVec 8, ((b <<< 4) &&& 240#8).toInt = 16 * nibLo b := by decide +kernel
  exact h b

/-- The byte with its low nibble cleared is sixteen times the signed high nibble. -/
theorem toInt_hi (b : BitVec 8) : (b &&& 240#8).toInt = 16 * nibHi b := by
  have h : ∀ b : BitVec 8, (b &&& 240#8).toInt = 16 * nibHi b := by decide +kernel
  exact h b

/-- Bit `q` of the byte at row `p` of a matrix of words read as bytes is a bit of the word at row `p / 4`. -/
theorem bitcast_32_8_getLsbD_ix2 {R r n : Nat} (x : (⟨2, ![r, n]⟩ : Shape).Idx → BitVec 32)
    (h : (⟨2, ![r, n]⟩ : Shape).Bitcasts 32 ⟨2, ![R, n]⟩ 8) (p : Fin R) (l : Fin n) (q : Nat) (hq : q < 8) (a : Fin r)
    (ha : a.val = p.val / 4) :
    (bitcast ⟨2, ![R, n]⟩ 8 x h (ix2 p l)).getLsbD q = (x (ix2 a l)).getLsbD (8 * (p.val % 4) + q) := by
  rw [bitcast_getLsbD x h _ q hq (by decide)]
  have hr : (⟨2, ![R, n]⟩ : Shape).row (ix2 p l) = p.val := rfl
  have e1 : ((⟨2, ![R, n]⟩ : Shape).row (ix2 p l) * 8 + q) / 32 = a.val := by rw [hr]; omega
  have e2 : ((⟨2, ![R, n]⟩ : Shape).row (ix2 p l) * 8 + q) % 32 = 8 * (p.val % 4) + q := by rw [hr]; omega
  rw [e2]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

theorem mask_bit : ∀ m < 4, ∀ q < 8, (4042322160#32).getLsbD (8 * m + q) = (240#8 : BitVec 8).getLsbD q := by decide

theorem mask_low : ∀ q < 4, (240#8 : BitVec 8).getLsbD q = false := by decide

variable {R r n : Nat} (x : (⟨2, ![R, n]⟩ : Shape).Idx → BitVec 8) (h : (⟨2, ![R, n]⟩ : Shape).Bitcasts 8 ⟨2, ![r, n]⟩ 32)
  (h' : (⟨2, ![r, n]⟩ : Shape).Bitcasts 32 ⟨2, ![R, n]⟩ 8) (p : Fin R) (l : Fin n) (hr : p.val / 4 < r)

include hr in
/-- The words masked to the high nibbles, read as bytes: each byte masked. -/
theorem hi_bytes (w : (⟨2, ![r, n]⟩ : Shape).Idx → BitVec 32)
    (hw : ∀ j, w j = bitcast ⟨2, ![r, n]⟩ 32 x h j &&& 4042322160#32) :
    bitcast ⟨2, ![R, n]⟩ 8 w h' (ix2 p l) = x (ix2 p l) &&& 240#8 := by
  apply BitVec.eq_of_getLsbD_eq
  intro q hq
  rw [bitcast_32_8_getLsbD_ix2 _ h' p l q hq ⟨p.val / 4, hr⟩ rfl, hw, BitVec.getLsbD_and, BitVec.getLsbD_and,
    bitcast_8_32_getLsbD_ix2 x h ⟨p.val / 4, hr⟩ l _ (by omega) p (by show p.val = 4 * (p.val / 4) + _; omega), mask_bit _ (by omega) q hq]
  congr 2
  omega

include hr in
/-- The words moved up by a nibble and masked, read as bytes: each byte moved up and masked. -/
theorem lo_bytes (w : (⟨2, ![r, n]⟩ : Shape).Idx → BitVec 32)
    (hw : ∀ j, w j = (bitcast ⟨2, ![r, n]⟩ 32 x h j <<< 4) &&& 4042322160#32) :
    bitcast ⟨2, ![R, n]⟩ 8 w h' (ix2 p l) = (x (ix2 p l) <<< 4) &&& 240#8 := by
  apply BitVec.eq_of_getLsbD_eq
  intro q hq
  rw [bitcast_32_8_getLsbD_ix2 _ h' p l q hq ⟨p.val / 4, hr⟩ rfl, hw, BitVec.getLsbD_and, BitVec.getLsbD_and, mask_bit _ (by omega) q hq]
  by_cases h4 : q < 4
  · simp [mask_low q h4]
  · rw [BitVec.getLsbD_shiftLeft, BitVec.getLsbD_shiftLeft,
      bitcast_8_32_getLsbD_ix2 x h ⟨p.val / 4, hr⟩ l (8 * (p.val % 4) + q - 4) (by omega) p (by show p.val = 4 * (p.val / 4) + _; omega)]
    have e : (8 * (p.val % 4) + q - 4) % 8 = q - 4 := by omega
    have a1 : 8 * (p.val % 4) + q < 32 := by omega
    have a2 : ¬ 8 * (p.val % 4) + q < 4 := by omega
    rw [e]
    simp [h4, a1, a2, hq]

end Cert.Bits
-- ==== Proof.Spec.lean ====
/- The mathematics both programs are read into, over the extended reals: a row rotated, its scale, its codes, and the
   maximum over a row taken in one pass or in 72 chunks of 256 lanes. -/
module

public import Idealize.ShloMosaic.Lib.Pointwise
public import Idealize.ShloMosaic.Lib.IdealHost
public import Idealize.ShloMosaic.Lib.Pipeline.ValueKit.Acc
public import proofs.«01_k».proof.Proof.Bits

@[expose] public section

set_option maxRecDepth 16384

noncomputable section

namespace Cert.Spec

open Idealize.ShloMosaic

/-- The norm `128 ^ (-1/2)` as the programs write it. -/
def norm : EReal := Ideal.ofBits .f32 0x3DB504F3#32

/-- A row rotated by a 256 × 256 sign table, 256 lanes at a time, and scaled by the norm. -/
def krot (f : Fin 18432 → EReal) (S : Fin 256 → Fin 256 → EReal) (n : Fin 18432) : EReal :=
  (∑ k : Fin 256, f ⟨256 * (n.val / 256) + k.val, by omega⟩ * S k ⟨n.val % 256, Nat.mod_lt _ (by decide)⟩) * norm

/-- The largest magnitude of a row. -/
def amaxRow (g : Fin 18432 → EReal) : EReal := Finset.univ.fold max ⊥ fun n => max (g n) (-(g n))

/-- The scale from the largest magnitude. -/
def scaleOfMax (a : EReal) : EReal := if a = 0 then 1 else Ideal.div a (Ideal.ofBits .f32 0x42FE0000#32)

/-- The code of a value at a scale. -/
def code (v s : EReal) : BitVec 8 :=
  FloatOps.fptosi (F := Ideal) (φ := .f32) 8 (FloatOps.minimumf (Scalar.sitofp (F := Ideal) .f32 127#32)
    (FloatOps.maximumf (Scalar.sitofp (F := Ideal) .f32 4294967169#32) (FloatOps.roundeven (F := Ideal) (φ := .f32) (FloatOps.divf (F := Ideal) (φ := .f32) v s))))

/-- The start of the programs' maximum is `-∞`. -/
theorem ofBits_negInf : Ideal.ofBits .f32 0xFF800000#32 = ⊥ := by simp [Ideal.ofBits, Ideal.ieee]

theorem abs_nonneg (x : EReal) : 0 ≤ max x (-x) := by
  rcases le_total 0 x with h | h
  · exact le_max_of_le_left h
  · exact le_max_of_le_right (EReal.neg_nonneg.mpr h)

theorem fold_max_le {ι : Type} (s : Finset ι) (f : ι → EReal) (b : EReal) : s.fold max ⊥ f ≤ b ↔ ∀ i ∈ s, f i ≤ b := by
  rw [Finset.fold_max_le]
  exact ⟨fun h => h.2, fun h => ⟨bot_le, h⟩⟩

/-- The maximum over the first `n` chunks at one lane, started at zero. -/
def chunkMax (g : ℕ → EReal) : ℕ → EReal
  | 0 => 0
  | n + 1 => max (chunkMax g n) (max (g n) (-(g n)))

theorem chunkMax_le (g : ℕ → EReal) (n : ℕ) (b : EReal) (hb : 0 ≤ b) : chunkMax g n ≤ b ↔ ∀ q < n, max (g q) (-(g q)) ≤ b := by
  induction n with
  | zero => exact ⟨fun _ q hq => absurd hq (Nat.not_lt_zero q), fun _ => hb⟩
  | succ n ih =>
    show max _ _ ≤ b ↔ _
    rw [max_le_iff, ih]
    constructor
    · rintro ⟨h1, h2⟩ q hq
      rcases Nat.lt_succ_iff_lt_or_eq.mp hq with h | rfl
      · exact h1 q h
      · exact h2
    · intro h
      exact ⟨fun q hq => h q (by omega), h n (by omega)⟩

/-- The maximum over 256 lanes of the maxima over 72 chunks is the maximum over the row. -/
theorem fold_chunkMax (g : Fin 18432 → EReal) (h : ℕ → Fin 256 → EReal)
    (hg : ∀ (q : ℕ) (l : Fin 256) (hq : q < 72), h q l = g ⟨256 * q + l.val, by omega⟩) :
    (Finset.univ.fold max ⊥ fun l : Fin 256 => chunkMax (fun q => h q l) 72) = amaxRow g := by
  have key : ∀ b : EReal, 0 ≤ b → ((Finset.univ.fold max ⊥ fun l : Fin 256 => chunkMax (fun q => h q l) 72) ≤ b ↔ amaxRow g ≤ b) := by
    intro b hb
    unfold amaxRow
    rw [fold_max_le, fold_max_le]
    constructor
    · intro H n _
      have := (chunkMax_le _ 72 b hb).mp (H ⟨n.val % 256, Nat.mod_lt _ (by decide)⟩ (Finset.mem_univ _)) (n.val / 256) (by omega)
      rw [hg _ _ (by omega)] at this
      have e : (⟨256 * (n.val / 256) + n.val % 256, by omega⟩ : Fin 18432) = n := Fin.ext (Nat.div_add_mod _ _)
      rwa [e] at this
    · intro H l _
      refine (chunkMax_le _ 72 b hb).mpr fun q hq => ?_
      rw [hg q l hq]
      exact H _ (Finset.mem_univ _)
  have nl : 0 ≤ amaxRow g := by
    have := (fold_max_le Finset.univ (fun n => max (g n) (-(g n))) (amaxRow g)).mp le_rfl ⟨0, by decide⟩ (Finset.mem_univ _)
    exact (abs_nonneg _).trans this
  have nr : 0 ≤ (Finset.univ.fold max ⊥ fun l : Fin 256 => chunkMax (fun q => h q l) 72) := by
    have := (fold_max_le Finset.univ (fun l : Fin 256 => chunkMax (fun q => h q l) 72) _).mp le_rfl ⟨0, by decide⟩ (Finset.mem_univ _)
    refine le_trans ?_ this
    have := (chunkMax_le (fun q => h q ⟨0, by decide⟩) 72 (max 0 (chunkMax (fun q => h q ⟨0, by decide⟩) 72)) (le_max_left _ _)).mp (le_max_right _ _) 71 (by decide)
    show 0 ≤ max _ _
    exact le_max_of_le_right (abs_nonneg _)
  exact le_antisymm ((key _ nl).mpr le_rfl) ((key _ nr).mp le_rfl)

/-- An integer as an extended real. -/
def intE (z : ℤ) : EReal := ((z : ℝ) : EReal)

/-- The extended real a program's conversion from a signed word gives. -/
theorem sitofp_eq {w : ℕ} (φ : FTy) (x : BitVec w) : FloatOps.sitofp (F := Ideal) φ x = intE x.toInt := rfl

theorem intE_add (a b : ℤ) : intE a + intE b = intE (a + b) := by
  unfold intE; rw [← EReal.coe_add, ← Int.cast_add]

theorem intE_mul (a b : ℤ) : intE a * intE b = intE (a * b) := by
  unfold intE; rw [← EReal.coe_mul, ← Int.cast_mul]

theorem intE_sum {ι : Type} (s : Finset ι) (f : ι → ℤ) : ∑ i ∈ s, intE (f i) = intE (∑ i ∈ s, f i) := by
  classical
  induction s using Finset.induction_on with
  | empty => simp [intE]
  | insert a s ha ih => rw [Finset.sum_insert ha, Finset.sum_insert ha, ih, intE_add]

/-- The integer product of a row of codes with a column of packed nibbles: low nibbles meet the first half of the row,
    high nibbles the second. -/
def dotRow (A : Fin 18432 → BitVec 8) (b : Fin 9216 → BitVec 8) : EReal :=
  (∑ k : Fin 9216, intE (A ⟨k.val, by omega⟩).toInt * intE (Bits.nibLo (b k)))
    + ∑ k : Fin 9216, intE (A ⟨9216 + k.val, by omega⟩).toInt * intE (Bits.nibHi (b k))

/-- The product taken eight blocks at a time over sixteenfold nibbles, then divided by sixteen. -/
theorem dotRow_eq (A : Fin 18432 → BitVec 8) (b : Fin 9216 → BitVec 8) (w : EReal) (hw : w = (((1 : ℝ) / 16 : ℝ) : EReal)) :
    (∑ s : Fin 8, ((∑ k : Fin 1152, intE (A ⟨s.val * 1152 + k.val, by omega⟩).toInt * intE (16 * Bits.nibLo (b ⟨s.val * 1152 + k.val, by omega⟩)))
      + ∑ k : Fin 1152, intE (A ⟨9216 + (s.val * 1152 + k.val), by omega⟩).toInt * intE (16 * Bits.nibHi (b ⟨s.val * 1152 + k.val, by omega⟩)))) * w
      = dotRow A b := by
  have e1 : ∀ f : Fin 9216 → ℤ, (∑ s : Fin 8, ∑ k : Fin 1152, f ⟨s.val * 1152 + k.val, by omega⟩) = ∑ k : Fin 9216, f k := by
    intro f
    exact Fin.sum_mul_add_congr fun s k h => rfl
  unfold dotRow
  simp only [intE_mul, intE_sum, intE_add]
  rw [Finset.sum_add_distrib, e1 (fun k => (A ⟨k.val, by omega⟩).toInt * (16 * Bits.nibLo (b k))),
    e1 (fun k => (A ⟨9216 + k.val, by omega⟩).toInt * (16 * Bits.nibHi (b k)))]
  simp only [mul_left_comm _ (16 : ℤ), ← Finset.mul_sum]
  rw [← mul_add, hw]
  unfold intE
  rw [← EReal.coe_mul]
  congr 1
  push_cast
  ring

end Cert.Spec

end
-- ==== Proof.KernelIdealR0Value.lean ====
/- The rotate-and-quantise region over the extended reals: the two arrays it leaves, element by element. -/
module

public import proofs.«01_k».proof.Proof.KernelIdealR0Words
public import proofs.«01_k».proof.Proof.Spec
public import Idealize.ShloMosaic.Lib.Pipeline.Value

@[expose] public section

set_option maxRecDepth 16384

noncomputable section

namespace Cert.KernelIdeal.R0

open Cert.KernelIdeal.Gen
open Idealize.ShloMosaic Idealize.ShloMosaic.TcCoe Idealize.ShloMosaic.Tactic
open Idealize.ShloMosaic.Pipeline (Dat)

/-- One element of the rotated rows. -/
theorem rotW_apply (x0 : Vec Ideal S128x18432 .bf16) (x1 : Vec Ideal S256x256 .bf16) (r : Fin 128) (n : Fin 18432) :
    rotW x0 x1 (ix2 r n) = Spec.krot (fun n => x0 (ix2 r n)) (fun k l => x1 (ix2 k l)) n := by
  unfold rotW rotChunk rotC rowsChunk Spec.krot
  pointwise []
  refine congrArg (· * Spec.norm) (Finset.sum_congr rfl fun k _ => ?_)
  congr 2
  refine congrArg _ (Fin.ext ?_)
  show (256 * (n.val / 256) + k.val) % 18432 = 256 * (n.val / 256) + k.val
  omega

/-- The running maximum at a lane. -/
theorem runMax_apply (x0 : Vec Ideal S128x18432 .bf16) (x1 : Vec Ideal S256x256 .bf16) (j : S128x256.Idx) (n : ℕ) :
    runMax x0 x1 n j = Spec.chunkMax (fun q => rotChunk x0 x1 q j) n := by
  induction n with
  | zero =>
    unfold runMax Spec.chunkMax
    pointwise []
  | succ n ih =>
    unfold runMax Spec.chunkMax
    pointwise []
    rw [ih]
    rfl

/-- The scale of one row. -/
theorem scale_apply (x0 : Vec Ideal S128x18432 .bf16) (x1 : Vec Ideal S256x256 .bf16) (r : Fin 128) :
    scaleOf (runMax x0 x1 72) (ix2 r 0) = Spec.scaleOfMax (Spec.amaxRow fun n => rotW x0 x1 (ix2 r n)) := by
  rw [← Spec.fold_chunkMax (fun n => rotW x0 x1 (ix2 r n)) (fun q l => rotChunk x0 x1 q (ix2 r l))
    (fun q l hq => rotChunk_apply x0 x1 q (ix2 r l) _ rfl rfl)]
  unfold scaleOf
  pointwise []
  simp only [runMax_apply, Spec.ofBits_negInf]
  rfl

/-- One code. -/
theorem code_apply (x0 : Vec Ideal S128x18432 .bf16) (x1 : Vec Ideal S256x256 .bf16) (r : Fin 128) (n : Fin 18432) :
    codesAt (scaleOf (runMax x0 x1 72)) (rotW x0 x1) (ix2 r n)
      = Spec.code (rotW x0 x1 (ix2 r n)) (Spec.scaleOfMax (Spec.amaxRow fun n => rotW x0 x1 (ix2 r n))) := by
  rw [← scale_apply]
  rfl

section Arrays

variable (V : (c : Dev nD) → (b : Ref sig .tc) → Buf (Elt Ideal) ((c : Thread nD τ).loc b))

/-- The rotated array, from the rows and the sign table the region reads. -/
def rotArr (c : Dev nD) (i : Fin 7680) : Fin 18432 → EReal :=
  Spec.krot (fun n => V c main_v0 (ix2 i n)) (fun k l => V c main_cst (ix2 k l))

theorem idx0 : ∀ t, win0_0.index t = ![(grid0.coords t 0).val, 0] := by decide +kernel
theorem idx1 : ∀ t, win0_1.index t = ![0, 0] := by decide +kernel
theorem idx2 : ∀ t, win0_2.index t = ![(grid0.coords t 0).val, 0] := by decide +kernel
theorem idx3 : ∀ t, win0_3.index t = ![(grid0.coords t 0).val, 0] := by decide +kernel

theorem row_lt (t : Fin cfg0.N) (r : Fin 128) : 128 * (grid0.coords t 0).val + r.val < 7680 := by
  have : (grid0.coords t 0).val < 60 := (grid0.coords t 0).isLt
  omega

/-- A block of the rotated rows is the rotated array there. -/
theorem rot_block (c : Dev nD) (t : Fin cfg0.N) (r : Fin 128) (n : Fin 18432) :
    rotW (iblk V c 0 t) (iblk V c 1 t) (ix2 r n) = rotArr V c ⟨128 * (grid0.coords t 0).val + r.val, row_lt t r⟩ n := by
  rw [rotW_apply]
  unfold rotArr
  congr 1
  · funext n
    blk_ext [iblk, idx0 t]
  · funext k l
    blk_ext [iblk, idx1 t]

/-- The codes one point leaves. -/
theorem codes_at (c : Dev nD) (t : Fin cfg0.N) (r : Fin 128) (n : Fin 18432) :
    (outsAt0 V c t).1 (ix2 r n) = Spec.code (rotArr V c ⟨128 * (grid0.coords t 0).val + r.val, row_lt t r⟩ n)
      (Spec.scaleOfMax (Spec.amaxRow (rotArr V c ⟨128 * (grid0.coords t 0).val + r.val, row_lt t r⟩))) := by
  unfold outsAt0
  dsimp only
  rw [out_codes, code_apply]
  simp only [rot_block]

/-- The scales one point leaves. -/
theorem scales_at (c : Dev nD) (t : Fin cfg0.N) (r : Fin 128) :
    (outsAt0 V c t).2 (ix2 r 0) = Spec.scaleOfMax (Spec.amaxRow (rotArr V c ⟨128 * (grid0.coords t 0).val + r.val, row_lt t r⟩)) := by
  unfold outsAt0
  dsimp only
  rw [out_scale, scale_apply]
  simp only [rot_block]

/-- The codes array after the region. -/
theorem codes_arr (c : Dev nD) : (dat V c).arrAt 2 cfg0.N = fun y : S7680x18432.Idx =>
    Spec.code (rotArr V c (y 0) (y 1)) (Spec.scaleOfMax (Spec.amaxRow (rotArr V c (y 0)))) := by
  refine (dat V c).arrAt_eq_of_covers 2 _ (by decide +kernel) fun t hf y => ?_
  blk_simp
  rw [after0_2]
  have e : ((cfg0.win 2).blk t).view.emb y = ix2 ⟨128 * (grid0.coords t 0).val + (y 0).val, row_lt t (y 0)⟩ (y 1) := by
    blk_ext [idx2 t]
  refine Eq.trans ?_ (congrArg (fun y : S7680x18432.Idx => Spec.code (rotArr V c (y 0) (y 1)) (Spec.scaleOfMax (Spec.amaxRow (rotArr V c (y 0))))) e).symm
  refine Eq.trans (congrArg _ ?_) (codes_at V c t (y 0) (y 1))
  blk_ext []

/-- The scales array after the region. -/
theorem scales_arr (c : Dev nD) : (dat V c).arrAt 3 cfg0.N = fun y : S7680x1.Idx =>
    Spec.scaleOfMax (Spec.amaxRow (rotArr V c (y 0))) := by
  refine (dat V c).arrAt_eq_of_covers 3 _ (by decide +kernel) fun t hf y => ?_
  blk_simp
  rw [after0_3]
  have e : ((cfg0.win 3).blk t).view.emb y = ix2 ⟨128 * (grid0.coords t 0).val + (y 0).val, row_lt t (y 0)⟩ (y 1) := by
    blk_ext [idx3 t]
  refine Eq.trans ?_ (congrArg (fun y : S7680x1.Idx => Spec.scaleOfMax (Spec.amaxRow (rotArr V c (y 0)))) e).symm
  refine Eq.trans (congrArg _ ?_) (scales_at V c t (y 0))
  blk_ext []

end Arrays

end Cert.KernelIdeal.R0

end
-- ==== Proof.KernelIdealR1Words.lean ====
/- The matrix-product region: what one grid point leaves, as the products' words over the point's input blocks. -/
module

public import proofs.«01_k».proof.Proof.KernelIdealR1Frame
public import Idealize.ShloMosaic.Lib.Pointwise
public import Idealize.ShloMosaic.Lib.Pipeline.ValueKit

@[expose] public section

set_option maxRecDepth 16384

noncomputable section

namespace Cert.KernelIdeal.R1

open Cert.KernelIdeal.Gen
open Idealize.ShloMosaic Idealize.ShloMosaic.TcCoe Idealize.ShloMosaic.Tactic
open Idealize.ShloMosaic.Pipeline (Dat)

variable {F : FTy → Type} [FloatOps F]

section Point

variable (c : Dev nD) (i : grid1.Coords) (arg3 : Memref sig .tc .vmem S512x1152 .i8) (harg3 : arg3.IsWhole) (arg4 : Memref sig .tc .vmem S512x1152 .i8) (harg4 : arg4.IsWhole)
  (arg5 : Memref sig .tc .vmem S1152x1024 .i8) (harg5 : arg5.IsWhole) (arg6 : Memref sig .tc .vmem S512x1 .f32) (harg6 : arg6.IsWhole) (arg7 : Memref sig .tc .vmem S1x1024 .f32) (harg7 : arg7.IsWhole)
  (arg8 : Memref sig .tc .vmem S512x1024 .bf16) (harg8 : arg8.IsWhole) (arg9 : Memref sig .tc .vmem S512x1024 .f32) (harg9 : arg9.IsWhole)
  (x0 : Vec F S512x1152 .i8) (x1 : Vec F S512x1152 .i8) (x2 : Vec F S1152x1024 .i8) (x3 : Vec F S512x1 .f32) (x4 : Vec F S1x1024 .f32) (xs0 : Vec F S512x1024 .f32)

/-- The first block of a row of blocks leaves its products in the accumulator. -/
theorem sout_A (hc0) (hc1) (hc2) :
    sout0_A_0 c i arg3 harg3 arg4 harg4 arg5 harg5 arg6 harg6 arg7 harg7 arg8 harg8 arg9 harg9 hc0 hc1 hc2 x0 x1 x2 x3 x4 = k1_pay1 x2 x0 x1 := by
  unfold sout0_A_0 kernelRun0_A
  frame_open
  simp (disch := decide) only [View.read_writes_junk_eq_canon, View.canon_cons_unit_lit', View.readAt_eq_ld, Memref.IsWhole.read_unread, View.ld_unit_lit']
  unfold k1_pay2
  simp only [shapeCast_self]

/-- A later block adds its products. -/
theorem sout_B (hc0) (hc1) (hc2) :
    sout0_B_0 c i arg3 harg3 arg4 harg4 arg5 harg5 arg6 harg6 arg7 harg7 arg8 harg8 arg9 harg9 hc0 hc1 hc2 x0 x1 x2 x3 x4 xs0 = addf xs0 (k1_pay1 x2 x0 x1) := by
  unfold sout0_B_0 kernelRun0_B
  frame_open
  simp (disch := decide) only [View.read_writes_junk_eq_canon, View.canon_cons_unit_lit', View.readAt_eq_ld, Memref.IsWhole.read_unread, View.ld_unit_lit']
  unfold k1_pay3
  simp only [shapeCast_self]

/-- The last block adds its products too. -/
theorem sout_C (hc0) (hc1) (hc2) :
    sout0_C_0 c i arg3 harg3 arg4 harg4 arg5 harg5 arg6 harg6 arg7 harg7 arg8 harg8 arg9 harg9 hc0 hc1 hc2 x0 x1 x2 x3 x4 xs0 = addf xs0 (k1_pay1 x2 x0 x1) := by
  unfold sout0_C_0 kernelRun0_C
  frame_open
  simp (disch := decide) only [View.read_writes_junk_eq_canon, View.canon_cons_unit_lit', View.readAt_eq_ld, Memref.IsWhole.read_unread, View.ld_unit_lit']
  unfold k1_pay3
  simp only [shapeCast_self]

/-- The last block writes the scaled accumulator out. -/
theorem out_C (hc0) (hc1) (hc2) :
    out0_C_5 c i arg3 harg3 arg4 harg4 arg5 harg5 arg6 harg6 arg7 harg7 arg8 harg8 arg9 harg9 hc0 hc1 hc2 x0 x1 x2 x3 x4 xs0
      = k1_pay4 (addf xs0 (k1_pay1 x2 x0 x1)) x3 x4 := by
  unfold out0_C_5 kernelRun0_C
  frame_open
  simp (disch := decide) only [View.read_writes_junk_eq_canon, View.canon_cons_unit_lit', View.readAt_eq_ld, Memref.IsWhole.read_unread, View.ld_unit_lit', View.readCov_cons_unit_lit']
  unfold k1_pay3
  simp only [shapeCast_self]

end Point

end Cert.KernelIdeal.R1

end
-- ==== Proof.KernelIdealR1Value.lean ====
/- The matrix-product region over the extended reals: the array it leaves, element by element. -/
module

public import proofs.«01_k».proof.Proof.KernelIdealR1Words
public import proofs.«01_k».proof.Proof.Spec
public import Idealize.ShloMosaic.Lib.Pipeline.Value
public import Idealize.ShloMosaic.Lib.Pipeline.Covers

@[expose] public section

set_option maxRecDepth 16384

noncomputable section

namespace Cert.KernelIdeal.R1

open Cert.KernelIdeal.Gen
open Idealize.ShloMosaic Idealize.ShloMosaic.TcCoe Idealize.ShloMosaic.Tactic
open Idealize.ShloMosaic.Pipeline (Dat)

theorem ofBits_sixteenth : Ideal.ofBits .f32 0x3D800000#32 = (((1 : ℝ) / 16 : ℝ) : EReal) := by
  simp [Ideal.ofBits, Ideal.ieee, -EReal.coe_mul]
  norm_num

/-- One block's products at an element. -/
def part (x0 x1 : Vec Ideal S512x1152 .i8) (x2 : Vec Ideal S1152x1024 .i8) (r : Fin 512) (l : Fin 1024) : EReal :=
  (∑ k : Fin 1152, Spec.intE (x0 (ix2 r k)).toInt * Spec.intE (16 * Bits.nibLo (x2 (ix2 k l))))
    + ∑ k : Fin 1152, Spec.intE (x1 (ix2 r k)).toInt * Spec.intE (16 * Bits.nibHi (x2 (ix2 k l)))

theorem pay_apply (x0 x1 : Vec Ideal S512x1152 .i8) (x2 : Vec Ideal S1152x1024 .i8) (r : Fin 512) (l : Fin 1024) :
    k1_pay1 x2 x0 x1 (ix2 r l) = part x0 x1 x2 r l := by
  have lo : ∀ (k : Fin 1152) (l : Fin 1024), bitcast S1152x1024 8 (andi (shli (bitcast S288x1024 32 x2 bitcasts_S1152x1024_w8_S288x1024_w32) (broadcast S288x1024 4#32)) (broadcast S288x1024 4042322160#32)) bitcasts_S288x1024_w32_S1152x1024_w8 (ix2 k l)
      = (x2 (ix2 k l) <<< 4) &&& 240#8 := fun k l =>
    Bits.lo_bytes x2 bitcasts_S1152x1024_w8_S288x1024_w32 bitcasts_S288x1024_w32_S1152x1024_w8 k l (by omega) _ fun j => rfl
  have hi : ∀ (k : Fin 1152) (l : Fin 1024), bitcast S1152x1024 8 (andi (bitcast S288x1024 32 x2 bitcasts_S1152x1024_w8_S288x1024_w32) (broadcast S288x1024 4042322160#32)) bitcasts_S288x1024_w32_S1152x1024_w8 (ix2 k l)
      = x2 (ix2 k l) &&& 240#8 := fun k l =>
    Bits.hi_bytes x2 bitcasts_S1152x1024_w8_S288x1024_w32 bitcasts_S288x1024_w32_S1152x1024_w8 k l (by omega) _ fun j => rfl
  unfold k1_pay1 part
  generalize bitcast S1152x1024 8 (andi (shli _ _) _) _ = wlo at lo ⊢
  generalize bitcast S1152x1024 8 (andi _ _) _ = whi at hi ⊢
  pointwise []
  simp only [lo, hi, Spec.sitofp_eq]
  simp only [Bits.toInt_lo]
  simp only [Bits.toInt_hi]

/-- The scaled accumulator at an element. -/
theorem pay4_apply (a : Vec Ideal S512x1024 .f32) (x3 : Vec Ideal S512x1 .f32) (x4 : Vec Ideal S1x1024 .f32) (r : Fin 512) (l : Fin 1024) :
    k1_pay4 a x3 x4 (ix2 r l) = a (ix2 r l) * (((1 : ℝ) / 16 : ℝ) : EReal) * x3 (ix2 r 0) * x4 (ix2 0 l) := by
  rw [← ofBits_sixteenth]
  unfold k1_pay4
  pointwise []

section Arrays

variable (V : (c : Dev nD) → (b : Ref sig .tc) → Buf (Elt Ideal) ((c : Thread nD τ).loc b))

theorem idx0 : ∀ t, win1_0.index t = ![t.val / 56, t.val % 8] := by decide +kernel
theorem idx1 : ∀ t, win1_1.index t = ![t.val / 56, t.val % 8 + 8] := by decide +kernel
theorem idx2 : ∀ t, win1_2.index t = ![t.val % 8, t.val / 8 % 7] := by decide +kernel
theorem idx3 : ∀ t, win1_3.index t = ![t.val / 56, 0] := by decide +kernel
theorem idx4 : ∀ t, win1_4.index t = ![0, t.val / 8 % 7] := by decide +kernel
theorem idx5 : ∀ t, win1_5.index t = ![t.val / 56, t.val / 8 % 7] := by decide +kernel

/-- One element of the product. -/
def yArr (c : Dev nD) (i : Fin 7680) (j : Fin 7168) : EReal :=
  Spec.dotRow (fun k => V c main_v1_0 (ix2 i k)) (fun k => V c main_arg1 (ix2 k j)) * V c main_v1_1 (ix2 i 0) * V c main_v2 (ix2 0 j)

theorem row_lt (t : Fin cfg1.N) (r : Fin 512) : 512 * (t.val / 56) + r.val < 7680 := by
  have : t.val < 840 := lt_of_lt_of_eq t.isLt N_1
  omega

theorem col_lt (t : Fin cfg1.N) (l : Fin 1024) : 1024 * (t.val / 8 % 7) + l.val < 7168 := by
  omega

/-- What a point adds to the accumulator. -/
def term (c : Dev nD) (t : Fin cfg1.N) (j : S512x1024.Idx) : EReal :=
  k1_pay1 (iblk V c 2 t) (iblk V c 0 t) (iblk V c 1 t) j

/-- The accumulator when the block is written back: the eight blocks' products. -/
theorem acc_eq (c : Dev nD) (t : Fin cfg1.N) (ht : t.val % 8 = 7) (j : S512x1024.Idx) :
    (outsAt0 V c t.val t.isLt).2 j = 0 + ∑ s : Fin 8, term V c ⟨8 * (t.val / 8) + s.val, by have := t.isLt; have := s.isLt; omega⟩ j := by
  rw [Pipeline.eq_sum_fin_of_reset_step_apply_of_flush (fun n h => (outsAt0 V c n h).2) 8 (fun _ => (0 : EReal)) (term V c)
    (fun t h j => by
      rw [outsAt0_A V c t h (by omega) (by omega)]
      dsimp only
      rw [sout_A]
      exact (zero_add _).symm)
    (fun t h j => by
      by_cases h2 : t.val % 8 = 7
      · rw [outsAt0_C V c t h (by omega) h2]
        dsimp only
        rw [sout_C]
        rfl
      · rw [outsAt0_B V c t h (by omega) h2]
        dsimp only
        rw [sout_B]
        rfl) t ht j]

/-- The block written back is the scaled accumulator. -/
theorem out_eq (c : Dev nD) (t : Fin cfg1.N) (ht : t.val % 8 = 7) :
    (outsAt0 V c t.val t.isLt).1 = k1_pay4 (outsAt0 V c t.val t.isLt).2 (iblk V c 3 t) (iblk V c 4 t) := by
  rw [outsAt0_C V c t (by omega) (by omega) ht]
  dsimp only
  rw [out_C, sout_C]

/-- A point's products over the arrays. -/
theorem term_eq (c : Dev nD) (t : Fin cfg1.N) (ht : t.val % 8 = 7) (s : Fin 8) (p : Fin cfg1.N) (hp : p.val = 8 * (t.val / 8) + s.val) (r : Fin 512) (l : Fin 1024) :
    term V c p (ix2 r l)
      = (∑ k : Fin 1152, Spec.intE ((V c main_v1_0 : S7680x18432.Idx → BitVec 8) (ix2 ⟨512 * (t.val / 56) + r.val, row_lt t r⟩ ⟨s.val * 1152 + k.val, by omega⟩)).toInt
          * Spec.intE (16 * Bits.nibLo (V c main_arg1 (ix2 ⟨s.val * 1152 + k.val, by omega⟩ ⟨1024 * (t.val / 8 % 7) + l.val, col_lt t l⟩))))
        + ∑ k : Fin 1152, Spec.intE ((V c main_v1_0 : S7680x18432.Idx → BitVec 8) (ix2 ⟨512 * (t.val / 56) + r.val, row_lt t r⟩ ⟨9216 + (s.val * 1152 + k.val), by omega⟩)).toInt
          * Spec.intE (16 * Bits.nibHi (V c main_arg1 (ix2 ⟨s.val * 1152 + k.val, by omega⟩ ⟨1024 * (t.val / 8 % 7) + l.val, col_lt t l⟩))) := by
  unfold term
  rw [pay_apply]
  unfold part
  have hs := s.isLt
  have e1 : p.val / 56 = t.val / 56 := by omega
  have e2 : p.val % 8 = s.val := by omega
  have e3 : p.val / 8 % 7 = t.val / 8 % 7 := by omega
  have b0 : ∀ k : Fin 1152, iblk V c 0 p (ix2 r k) = V c main_v1_0 (ix2 ⟨512 * (t.val / 56) + r.val, row_lt t r⟩ ⟨s.val * 1152 + k.val, by omega⟩) := fun k => by
    blk_ext [iblk, idx0 p]
  have b1 : ∀ k : Fin 1152, iblk V c 1 p (ix2 r k) = V c main_v1_0 (ix2 ⟨512 * (t.val / 56) + r.val, row_lt t r⟩ ⟨9216 + (s.val * 1152 + k.val), by omega⟩) := fun k => by
    blk_ext [iblk, idx1 p]
  have b2 : ∀ k : Fin 1152, iblk V c 2 p (ix2 k l) = V c main_arg1 (ix2 ⟨s.val * 1152 + k.val, by omega⟩ ⟨1024 * (t.val / 8 % 7) + l.val, col_lt t l⟩) := fun k => by
    blk_ext [iblk, idx2 p]
  simp only [b0, b1, b2]

/-- The block written back at an element. -/
theorem out_at (c : Dev nD) (t : Fin cfg1.N) (ht : t.val % 8 = 7) (r : Fin 512) (l : Fin 1024) :
    (outsAt0 V c t.val t.isLt).1 (ix2 r l) = yArr V c ⟨512 * (t.val / 56) + r.val, row_lt t r⟩ ⟨1024 * (t.val / 8 % 7) + l.val, col_lt t l⟩ := by
  rw [out_eq V c t ht, pay4_apply, acc_eq V c t ht, zero_add]
  rw [Finset.sum_congr rfl fun s _ => term_eq V c t ht s _ rfl r l]
  rw [Spec.dotRow_eq (fun k => V c main_v1_0 (ix2 ⟨512 * (t.val / 56) + r.val, row_lt t r⟩ k)) (fun k => V c main_arg1 (ix2 k ⟨1024 * (t.val / 8 % 7) + l.val, col_lt t l⟩)) _ rfl]
  unfold yArr
  have b3 : iblk V c 3 t (ix2 r 0) = V c main_v1_1 (ix2 ⟨512 * (t.val / 56) + r.val, row_lt t r⟩ 0) := by
    blk_ext [iblk, idx3 t]
  have b4 : iblk V c 4 t (ix2 0 l) = V c main_v2 (ix2 0 ⟨1024 * (t.val / 8 % 7) + l.val, col_lt t l⟩) := by
    blk_ext [iblk, idx4 t]
  rw [b3, b4]

/-- Every block of the product is some point's. -/
theorem cover5 (β : (a : Fin 2) → Fin (win1_5.nblk a)) : ∃ t : Fin grid1.N, ∀ a, win1_5.index t a = β a := by
  have b0 : (β 0).val < 15 := lt_of_lt_of_eq (β 0).isLt (by decide)
  have b1 : (β 1).val < 7 := lt_of_lt_of_eq (β 1).isLt (by decide)
  refine ⟨⟨56 * (β 0).val + 8 * (β 1).val, lt_of_lt_of_eq (by omega) N_1.symm⟩, fun a => ?_⟩
  rw [idx5]
  fin_cases a
  · show (56 * (β 0).val + 8 * (β 1).val) / 56 = (β 0).val
    omega
  · show (56 * (β 0).val + 8 * (β 1).val) / 8 % 7 = (β 1).val
    omega

/-- The product array after the region. -/
theorem y_arr (c : Dev nD) : (dat V c).arrAt 5 cfg1.N = fun y : S7680x7168.Idx => yArr V c (y 0) (y 1) := by
  refine (dat V c).arrAt_eq_of_covers 5 _ ((cfg1.win 5).covers_of_index_surj rfl (by decide) cover5) fun t hf y => ?_
  have ht : t.val % 8 = 7 := (flush1_5 t).mp hf
  blk_simp
  rw [after0_5]
  have e : ((cfg1.win 5).blk t).view.emb y = ix2 ⟨512 * (t.val / 56) + (y 0).val, row_lt t (y 0)⟩ ⟨1024 * (t.val / 8 % 7) + (y 1).val, col_lt t (y 1)⟩ := by
    blk_ext [idx5 t]
  refine Eq.trans ?_ (congrArg (fun y : S7680x7168.Idx => yArr V c (y 0) (y 1)) e).symm
  refine Eq.trans (congrArg _ ?_) (out_at V c t ht (y 0) (y 1))
  blk_ext []

end Arrays

end Cert.KernelIdeal.R1

end
-- ==== Proof.Sign.lean ====
/- The signs of the Walsh-Hadamard matrices, by the digits of a row and a column, and the sign table they make. -/
module

public import Mathlib.Data.Nat.Notation
public import Mathlib.Data.Int.Notation

@[expose] public section

namespace Cert.Sign

/-- Whether entry `(i, j)` of the Hadamard matrix of order `2 ^ (d + 1)` is negative. -/
def neg : ℕ → ℕ → ℕ → Bool
  | 0, i, j => Nat.beq (i % 2) 1 && Nat.beq (j % 2) 1
  | d + 1, i, j => Bool.xor (neg d (i / 2) (j / 2)) (Nat.beq (i % 2) 1 && Nat.beq (j % 2) 1)

/-- Entry `(k, l)` of the 256 × 256 table, as bfloat16 bits: the Hadamard matrix of order 128 twice on the diagonal,
    signed zeros elsewhere. -/
def tabBits (k l : ℕ) : BitVec 16 :=
  if k / 128 = l / 128 then (bif neg 6 (k % 128) (l % 128) then 0xBF80#16 else 0x3F80#16)
  else (bif neg 6 (k % 128) (l % 128) then 0x8000#16 else 0x0000#16)

end Cert.Sign
-- ==== Proof.Rotation.lean ====
/- The two rotations of a row agree: 256 lanes at a time through the table of two Hadamard matrices, scaled afterwards,
   and 128 lanes at a time through one Hadamard matrix scaled beforehand. -/
module

public import proofs.«01_k».proof.Proof.Spec
public import proofs.«01_k».proof.Proof.Sign

@[expose] public section

set_option maxRecDepth 16384

noncomputable section

namespace Cert.Spec

open Idealize.ShloMosaic

/-- A sign as an extended real. -/
def sgnE (b : Bool) : EReal := bif b then -1 else 1

theorem sgnE_xor (a b : Bool) : sgnE (Bool.xor a b) = sgnE a * sgnE b := by
  cases a <;> cases b <;> simp [sgnE]

/-- A row rotated by the Hadamard matrix of order 128, scaled by the norm. -/
def rrot (f : Fin 18432 → EReal) (n : Fin 18432) : EReal :=
  ∑ k : Fin 128, f ⟨n.val / 128 * 128 + k.val, by omega⟩ * (sgnE (Sign.neg 6 k.val (n.val % 128)) * norm)

theorem norm_real : ∃ r : ℝ, 0 ≤ r ∧ norm = (r : EReal) := by
  refine ⟨(11863283 : ℝ) * (1 / 134217728), by positivity, ?_⟩
  unfold norm
  simp [Ideal.ofBits, Ideal.ieee, -EReal.coe_mul]
  norm_num

theorem sum_mul_norm {ι : Type} (s : Finset ι) (f : ι → EReal) : (∑ i ∈ s, f i) * norm = ∑ i ∈ s, f i * norm := by
  classical
  obtain ⟨r, hr, e⟩ := norm_real
  rw [e]
  induction s using Finset.induction_on with
  | empty => simp
  | insert a s ha ih =>
    rw [Finset.sum_insert ha, Finset.sum_insert ha, EReal.right_distrib_of_nonneg_of_ne_top (EReal.coe_nonneg.mpr hr) (EReal.coe_ne_top r), ih]

theorem ofBits_tab (k l : ℕ) : Ideal.ofBits .bf16 (Sign.tabBits k l) = if k / 128 = l / 128 then sgnE (Sign.neg 6 (k % 128) (l % 128)) else 0 := by
  unfold Sign.tabBits
  by_cases h : k / 128 = l / 128
  · rw [if_pos h, if_pos h]
    cases Sign.neg 6 (k % 128) (l % 128)
    · exact Ideal.ofBits_one_bf16
    · exact Ideal.ofBits_neg_one_bf16
  · rw [if_neg h, if_neg h]
    cases Sign.neg 6 (k % 128) (l % 128) <;> simp [Ideal.ofBits, Ideal.ieee]

/-- The two rotations agree. -/
theorem krot_eq (f : Fin 18432 → EReal) (n : Fin 18432) :
    krot f (fun k l => Ideal.ofBits .bf16 (Sign.tabBits k.val l.val)) n = rrot f n := by
  have hn := n.isLt
  unfold krot rrot
  have split : (∑ k : Fin 256, f ⟨256 * (n.val / 256) + k.val, by omega⟩ * Ideal.ofBits .bf16 (Sign.tabBits k.val (n.val % 256)))
      = ∑ a : Fin 2, ∑ b : Fin 128, f ⟨256 * (n.val / 256) + (a.val * 128 + b.val), by omega⟩ * Ideal.ofBits .bf16 (Sign.tabBits (a.val * 128 + b.val) (n.val % 256)) :=
    (Fin.sum_mul_add_congr fun a b h => rfl).symm
  refine (congrArg (· * norm) split).trans ?_
  have key : ∀ a : Fin 2, (∑ b : Fin 128, f ⟨256 * (n.val / 256) + (a.val * 128 + b.val), by omega⟩ * Ideal.ofBits .bf16 (Sign.tabBits (a.val * 128 + b.val) (n.val % 256)))
      = if a.val = n.val % 256 / 128 then ∑ b : Fin 128, f ⟨n.val / 128 * 128 + b.val, by omega⟩ * sgnE (Sign.neg 6 b.val (n.val % 128)) else 0 := by
    intro a
    by_cases h : a.val = n.val % 256 / 128
    · rw [if_pos h]
      refine Finset.sum_congr rfl fun b _ => ?_
      have hb := b.isLt
      rw [ofBits_tab, if_pos (by omega)]
      congr 2
      · congr 1
        omega
      · congr 1 <;> omega
    · rw [if_neg h]
      refine Finset.sum_eq_zero fun b _ => ?_
      have hb := b.isLt
      rw [ofBits_tab, if_neg (by omega), mul_zero]
  rw [Finset.sum_congr rfl fun a _ => key a]
  rw [Finset.sum_eq_single (⟨n.val % 256 / 128, by omega⟩ : Fin 2) (fun a _ ha => if_neg fun h => ha (Fin.ext h)) (fun h => absurd (Finset.mem_univ _) h), if_pos rfl,
    sum_mul_norm]
  exact Finset.sum_congr rfl fun b _ => mul_assoc _ _ _

end Cert.Spec

end
-- ==== Proof.Table0.lean ====
/- Rows 0 to 31 of the kernel's sign table are the table's. -/
module

public import proofs.«01_k».proof.KernelIdeal
public import proofs.«01_k».proof.Proof.Sign

@[expose] public section

set_option maxRecDepth 16384

namespace Cert.Table

theorem rows0 : ∀ k < 16, ∀ l < 256, KernelIdeal.lit0t (256 * (0 + k) + l) = Sign.tabBits (0 + k) l := by
  decide +kernel

theorem rows1 : ∀ k < 16, ∀ l < 256, KernelIdeal.lit0t (256 * (16 + k) + l) = Sign.tabBits (16 + k) l := by
  decide +kernel

end Cert.Table
-- ==== Proof.Table1.lean ====
/- Rows 32 to 63 of the kernel's sign table are the table's. -/
module

public import proofs.«01_k».proof.KernelIdeal
public import proofs.«01_k».proof.Proof.Sign

@[expose] public section

set_option maxRecDepth 16384

namespace Cert.Table

theorem rows2 : ∀ k < 16, ∀ l < 256, KernelIdeal.lit0t (256 * (32 + k) + l) = Sign.tabBits (32 + k) l := by
  decide +kernel

theorem rows3 : ∀ k < 16, ∀ l < 256, KernelIdeal.lit0t (256 * (48 + k) + l) = Sign.tabBits (48 + k) l := by
  decide +kernel

end Cert.Table
-- ==== Proof.Table2.lean ====
/- Rows 64 to 95 of the kernel's sign table are the table's. -/
module

public import proofs.«01_k».proof.KernelIdeal
public import proofs.«01_k».proof.Proof.Sign

@[expose] public section

set_option maxRecDepth 16384

namespace Cert.Table

theorem rows4 : ∀ k < 16, ∀ l < 256, KernelIdeal.lit0t (256 * (64 + k) + l) = Sign.tabBits (64 + k) l := by
  decide +kernel

theorem rows5 : ∀ k < 16, ∀ l < 256, KernelIdeal.lit0t (256 * (80 + k) + l) = Sign.tabBits (80 + k) l := by
  decide +kernel

end Cert.Table
-- ==== Proof.Table3.lean ====
/- Rows 96 to 127 of the kernel's sign table are the table's. -/
module

public import proofs.«01_k».proof.KernelIdeal
public import proofs.«01_k».proof.Proof.Sign

@[expose] public section

set_option maxRecDepth 16384

namespace Cert.Table

theorem rows6 : ∀ k < 16, ∀ l < 256, KernelIdeal.lit0t (256 * (96 + k) + l) = Sign.tabBits (96 + k) l := by
  decide +kernel

theorem rows7 : ∀ k < 16, ∀ l < 256, KernelIdeal.lit0t (256 * (112 + k) + l) = Sign.tabBits (112 + k) l := by
  decide +kernel

end Cert.Table
-- ==== Proof.Table4.lean ====
/- Rows 128 to 159 of the kernel's sign table are the table's. -/
module

public import proofs.«01_k».proof.KernelIdeal
public import proofs.«01_k».proof.Proof.Sign

@[expose] public section

set_option maxRecDepth 16384

namespace Cert.Table

theorem rows8 : ∀ k < 16, ∀ l < 256, KernelIdeal.lit0t (256 * (128 + k) + l) = Sign.tabBits (128 + k) l := by
  decide +kernel

theorem rows9 : ∀ k < 16, ∀ l < 256, KernelIdeal.lit0t (256 * (144 + k) + l) = Sign.tabBits (144 + k) l := by
  decide +kernel

end Cert.Table
-- ==== Proof.Table5.lean ====
/- Rows 160 to 191 of the kernel's sign table are the table's. -/
module

public import proofs.«01_k».proof.KernelIdeal
public import proofs.«01_k».proof.Proof.Sign

@[expose] public section

set_option maxRecDepth 16384

namespace Cert.Table

theorem rows10 : ∀ k < 16, ∀ l < 256, KernelIdeal.lit0t (256 * (160 + k) + l) = Sign.tabBits (160 + k) l := by
  decide +kernel

theorem rows11 : ∀ k < 16, ∀ l < 256, KernelIdeal.lit0t (256 * (176 + k) + l) = Sign.tabBits (176 + k) l := by
  decide +kernel

end Cert.Table
-- ==== Proof.Table6.lean ====
/- Rows 192 to 223 of the kernel's sign table are the table's. -/
module

public import proofs.«01_k».proof.KernelIdeal
public import proofs.«01_k».proof.Proof.Sign

@[expose] public section

set_option maxRecDepth 16384

namespace Cert.Table

theorem rows12 : ∀ k < 16, ∀ l < 256, KernelIdeal.lit0t (256 * (192 + k) + l) = Sign.tabBits (192 + k) l := by
  decide +kernel

theorem rows13 : ∀ k < 16, ∀ l < 256, KernelIdeal.lit0t (256 * (208 + k) + l) = Sign.tabBits (208 + k) l := by
  decide +kernel

end Cert.Table
-- ==== Proof.Table7.lean ====
/- Rows 224 to 255 of the kernel's sign table are the table's. -/
module

public import proofs.«01_k».proof.KernelIdeal
public import proofs.«01_k».proof.Proof.Sign

@[expose] public section

set_option maxRecDepth 16384

namespace Cert.Table

theorem rows14 : ∀ k < 16, ∀ l < 256, KernelIdeal.lit0t (256 * (224 + k) + l) = Sign.tabBits (224 + k) l := by
  decide +kernel

theorem rows15 : ∀ k < 16, ∀ l < 256, KernelIdeal.lit0t (256 * (240 + k) + l) = Sign.tabBits (240 + k) l := by
  decide +kernel

end Cert.Table
-- ==== Proof.Table.lean ====
/- The kernel's sign table, all 256 rows: entry `(k, l)` is plus or minus one by the parity of the bits `k` and `l`
   share among the low seven, and zero across the two halves. -/
module

public import proofs.«01_k».proof.Proof.Table0
public import proofs.«01_k».proof.Proof.Table1
public import proofs.«01_k».proof.Proof.Table2
public import proofs.«01_k».proof.Proof.Table3
public import proofs.«01_k».proof.Proof.Table4
public import proofs.«01_k».proof.Proof.Table5
public import proofs.«01_k».proof.Proof.Table6
public import proofs.«01_k».proof.Proof.Table7

@[expose] public section

set_option maxRecDepth 16384

noncomputable section

namespace Cert.Table

/-- Sixteen runs of sixteen rows are all of them. -/
theorem join (P : ℕ → ℕ → Prop)
    (h0 : ∀ k < 16, ∀ l < 256, P (0 + k) l)
    (h1 : ∀ k < 16, ∀ l < 256, P (16 + k) l)
    (h2 : ∀ k < 16, ∀ l < 256, P (32 + k) l)
    (h3 : ∀ k < 16, ∀ l < 256, P (48 + k) l)
    (h4 : ∀ k < 16, ∀ l < 256, P (64 + k) l)
    (h5 : ∀ k < 16, ∀ l < 256, P (80 + k) l)
    (h6 : ∀ k < 16, ∀ l < 256, P (96 + k) l)
    (h7 : ∀ k < 16, ∀ l < 256, P (112 + k) l)
    (h8 : ∀ k < 16, ∀ l < 256, P (128 + k) l)
    (h9 : ∀ k < 16, ∀ l < 256, P (144 + k) l)
    (h10 : ∀ k < 16, ∀ l < 256, P (160 + k) l)
    (h11 : ∀ k < 16, ∀ l < 256, P (176 + k) l)
    (h12 : ∀ k < 16, ∀ l < 256, P (192 + k) l)
    (h13 : ∀ k < 16, ∀ l < 256, P (208 + k) l)
    (h14 : ∀ k < 16, ∀ l < 256, P (224 + k) l)
    (h15 : ∀ k < 16, ∀ l < 256, P (240 + k) l)
    (k l : ℕ) (hk : k < 256) (hl : l < 256) : P k l := by
  by_cases c0 : k < 16
  · have := h0 (k - 0) (by omega) l hl
    rwa [show 0 + (k - 0) = k by omega] at this
  by_cases c1 : k < 32
  · have := h1 (k - 16) (by omega) l hl
    rwa [show 16 + (k - 16) = k by omega] at this
  by_cases c2 : k < 48
  · have := h2 (k - 32) (by omega) l hl
    rwa [show 32 + (k - 32) = k by omega] at this
  by_cases c3 : k < 64
  · have := h3 (k - 48) (by omega) l hl
    rwa [show 48 + (k - 48) = k by omega] at this
  by_cases c4 : k < 80
  · have := h4 (k - 64) (by omega) l hl
    rwa [show 64 + (k - 64) = k by omega] at this
  by_cases c5 : k < 96
  · have := h5 (k - 80) (by omega) l hl
    rwa [show 80 + (k - 80) = k by omega] at this
  by_cases c6 : k < 112
  · have := h6 (k - 96) (by omega) l hl
    rwa [show 96 + (k - 96) = k by omega] at this
  by_cases c7 : k < 128
  · have := h7 (k - 112) (by omega) l hl
    rwa [show 112 + (k - 112) = k by omega] at this
  by_cases c8 : k < 144
  · have := h8 (k - 128) (by omega) l hl
    rwa [show 128 + (k - 128) = k by omega] at this
  by_cases c9 : k < 160
  · have := h9 (k - 144) (by omega) l hl
    rwa [show 144 + (k - 144) = k by omega] at this
  by_cases c10 : k < 176
  · have := h10 (k - 160) (by omega) l hl
    rwa [show 160 + (k - 160) = k by omega] at this
  by_cases c11 : k < 192
  · have := h11 (k - 176) (by omega) l hl
    rwa [show 176 + (k - 176) = k by omega] at this
  by_cases c12 : k < 208
  · have := h12 (k - 192) (by omega) l hl
    rwa [show 192 + (k - 192) = k by omega] at this
  by_cases c13 : k < 224
  · have := h13 (k - 208) (by omega) l hl
    rwa [show 208 + (k - 208) = k by omega] at this
  by_cases c14 : k < 240
  · have := h14 (k - 224) (by omega) l hl
    rwa [show 224 + (k - 224) = k by omega] at this
  by_cases c15 : k < 256
  · have := h15 (k - 240) (by omega) l hl
    rwa [show 240 + (k - 240) = k by omega] at this
  omega

theorem all (k l : ℕ) (hk : k < 256) (hl : l < 256) : KernelIdeal.lit0t (256 * k + l) = Sign.tabBits k l :=
  join (fun k l => KernelIdeal.lit0t (256 * k + l) = Sign.tabBits k l) rows0 rows1 rows2 rows3 rows4 rows5 rows6 rows7 rows8 rows9 rows10 rows11 rows12 rows13 rows14 rows15 k l hk hl

end Cert.Table

end
-- ==== Proof.KernelIdealValue.lean ====
/- The kernel's two result-bearing regions chained by the host lines: the three results as the reference's mathematics. -/
module

public import proofs.«01_k».proof.Proof.KernelIdealLaunch
public import proofs.«01_k».proof.Proof.KernelIdealR0Value
public import proofs.«01_k».proof.Proof.KernelIdealR1Value
public import proofs.«01_k».proof.Proof.Rotation
public import proofs.«01_k».proof.Proof.Table
public import Idealize.ShloMosaic.Lib.StableHlo.ReadAt

@[expose] public section

set_option maxRecDepth 16384

noncomputable section

namespace Cert.KernelIdeal.KerValue

open Cert.KernelIdeal.Gen Cert.KernelIdeal.Launch
open Idealize.ShloMosaic Idealize.ShloMosaic.TcCoe Idealize.ShloMosaic.Tactic

variable (m : (ℓ : Loc nD τ sig) → Buf (Elt Ideal) ℓ)

/-- The rows the first call reads are the argument's. -/
theorem x_read (c : Dev nD) (i : Fin 7680) (n : Fin 18432) :
    (W1 m c main_v0 (ix2 i n) : EReal) = m (c.tc.loc main_arg0) (ix3 ⟨i.val / 1280, by omega⟩ ⟨i.val % 1280, by omega⟩ n) := by
  unfold W1 V1 V0
  after_reads_at

theorem lit_eq (i : Fin 65536) : lit0 i = lit0t i.val := by
  cases i
  rfl

theorem lit_row (k l : Fin 256) : lit0 (S256x256.rowMajor (ix2 k l)) = lit0t (256 * k.val + l.val) := by
  refine (lit_eq _).trans (congrArg lit0t ?_)
  refine (Shape.rowMajor_val_two _).trans ?_
  show k.val * 256 + l.val = 256 * k.val + l.val
  omega

/-- The table the first call reads. -/
theorem cst_read (c : Dev nD) (k l : Fin 256) :
    (W1 m c main_cst (ix2 k l) : EReal) = Ideal.ofBits .bf16 (Sign.tabBits k.val l.val) := by
  refine Eq.trans ?_ (congrArg (Ideal.ofBits .bf16) (Table.all k.val l.val k.isLt l.isLt))
  unfold W1 V1 V0
  after_reads_at
  rw [lit_row]

/-- The rotated rows. -/
def rot (c : Dev nD) (i : Fin 7680) : Fin 18432 → EReal :=
  Spec.rrot fun n => m (c.tc.loc main_arg0) (ix3 ⟨i.val / 1280, by omega⟩ ⟨i.val % 1280, by omega⟩ n)

/-- The scale of a row. -/
def rowScale (c : Dev nD) (i : Fin 7680) : EReal := Spec.scaleOfMax (Spec.amaxRow (rot m c i))

/-- The code of an element. -/
def rowCode (c : Dev nD) (i : Fin 7680) (n : Fin 18432) : BitVec 8 := Spec.code (rot m c i n) (rowScale m c i)

/-- An element of the first result. -/
def yAt (c : Dev nD) (i : Fin 7680) (j : Fin 7168) : EReal :=
  Spec.dotRow (rowCode m c i) (fun k => m (c.tc.loc main_arg1) (ix2 k j)) * rowScale m c i * m (c.tc.loc main_arg2) (ix1 j)

theorem rot_eq (c : Dev nD) (i : Fin 7680) : R0.rotArr (W1 m) c i = rot m c i := by
  funext n
  have e1 : (fun n => (W1 m c main_v0 (ix2 i n) : EReal))
      = fun n => m (c.tc.loc main_arg0) (ix3 ⟨i.val / 1280, by omega⟩ ⟨i.val % 1280, by omega⟩ n) := funext fun n => x_read m c i n
  have e2 : (fun k l => (W1 m c main_cst (ix2 k l) : EReal)) = fun k l => Ideal.ofBits .bf16 (Sign.tabBits k.val l.val) :=
    funext fun k => funext fun l => cst_read m c k l
  unfold R0.rotArr rot
  rw [← Spec.krot_eq]
  exact congrFun (congrArg₂ Spec.krot e1 e2) n

theorem scale_elt (c : Dev nD) (i : Fin 7680) : Spec.scaleOfMax (Spec.amaxRow (R0.rotArr (W1 m) c i)) = rowScale m c i := by
  rw [rot_eq]
  unfold rowScale
  with_reducible rfl

theorem code_elt (c : Dev nD) (i : Fin 7680) (n : Fin 18432) :
    Spec.code (R0.rotArr (W1 m) c i n) (Spec.scaleOfMax (Spec.amaxRow (R0.rotArr (W1 m) c i))) = rowCode m c i n := by
  rw [scale_elt, rot_eq]
  unfold rowCode
  with_reducible rfl

/-- The codes the first call leaves. -/
theorem codes_out (c : Dev nD) : outs m 2 main_v1_0 c = fun y : S7680x18432.Idx => rowCode m c (y 0) (y 1) := by
  rw [outs_2_0]
  exact (R0.codes_arr (W1 m) c).trans (funext fun y => code_elt m c (y 0) (y 1))

/-- The scales the first call leaves. -/
theorem scales_out (c : Dev nD) : outs m 2 main_v1_1 c = fun y : S7680x1.Idx => rowScale m c (y 0) := by
  rw [outs_2_1]
  exact (R0.scales_arr (W1 m) c).trans (funext fun y => scale_elt m c (y 0))

theorem codes_in (c : Dev nD) : W3 m (outs m) c main_v1_0 = fun y : S7680x18432.Idx => rowCode m c (y 0) (y 1) := by
  refine Eq.trans ?_ (codes_out m c)
  refine (V3_of m (outs m) c main_v1_0 (by decide)).trans ?_
  unfold V2
  rw [Function.update_of_ne (StableHlo.devRef_ne_of_ne (by decide)), Function.update_self]

theorem scales_in (c : Dev nD) : W3 m (outs m) c main_v1_1 = fun y : S7680x1.Idx => rowScale m c (y 0) := by
  refine Eq.trans ?_ (scales_out m c)
  refine (V3_of m (outs m) c main_v1_1 (by decide)).trans ?_
  unfold V2
  rw [Function.update_self]

theorem w_in (c : Dev nD) : W3 m (outs m) c main_arg1 = m (c.tc.loc main_arg1) :=
  (V3_of m (outs m) c main_arg1 (by decide)).trans <| (V2_of m (outs m) c main_arg1 (by decide)).trans <| (V1_of m c main_arg1 (by decide)).trans rfl

theorem ws_in (c : Dev nD) (j : Fin 7168) : (W3 m (outs m) c main_v2 (ix2 0 j) : EReal) = m (c.tc.loc main_arg2) (ix1 j) := by
  have e : V2 m (outs m) c main_arg2 = m (c.tc.loc main_arg2) :=
    (V2_of m (outs m) c main_arg2 (by decide)).trans <| (V1_of m c main_arg2 (by decide)).trans rfl
  rw [← e]
  unfold W3 V3
  generalize V2 m (outs m) c = U
  after_reads_at

theorem y_elt (c : Dev nD) (i : Fin 7680) (j : Fin 7168) : R1.yArr (W3 m (outs m)) c i j = yAt m c i j := by
  have e1 : (fun k => (W3 m (outs m) c main_v1_0 (ix2 i k) : BitVec 8)) = rowCode m c i := funext fun k => congrFun (codes_in m c) (ix2 i k)
  have e2 : (fun k => (W3 m (outs m) c main_arg1 (ix2 k j) : BitVec 8)) = fun k => m (c.tc.loc main_arg1) (ix2 k j) :=
    funext fun k => congrFun (w_in m c) (ix2 k j)
  have e3 : (W3 m (outs m) c main_v1_1 (ix2 i 0) : EReal) = rowScale m c i := congrFun (scales_in m c) (ix2 i 0)
  have e4 := ws_in m c j
  unfold R1.yArr yAt
  generalize W3 m (outs m) c main_v2 (ix2 0 j) = b at e4 ⊢
  generalize W3 m (outs m) c main_v1_1 (ix2 i 0) = a at e3 ⊢
  generalize (fun k => (W3 m (outs m) c main_v1_0 (ix2 i k) : BitVec 8)) = A at e1 ⊢
  generalize (fun k => (W3 m (outs m) c main_arg1 (ix2 k j) : BitVec 8)) = B at e2 ⊢
  rw [e1, e2, e3, e4]

/-- The product the second call leaves. -/
theorem y_out (c : Dev nD) : outs m 4 main_v3 c = fun y : S7680x7168.Idx => yAt m c (y 0) (y 1) := by
  rw [outs_4]
  exact (R1.y_arr (W3 m (outs m)) c).trans (funext fun y => y_elt m c (y 0) (y 1))

/-- The first result. -/
theorem res0 (c : Dev nD) : V5 m (outs m) c main_v4
    = shapeCast _ (fun y : S7680x7168.Idx => yAt m c (y 0) (y 1)) shapeCasts_S7680x7168_S6x1280x7168 := by
  have e : V4 m (outs m) c main_v3 = fun y : S7680x7168.Idx => yAt m c (y 0) (y 1) := by
    refine Eq.trans ?_ (y_out m c)
    unfold V4
    rw [Function.update_self]
  rw [← e]
  unfold V5
  generalize V4 m (outs m) c = U
  simp only [hostOps2]
  after_results <;> rfl

/-- The second result. -/
theorem res1 (c : Dev nD) : V5 m (outs m) c main_v5
    = shapeCast _ (fun y : S7680x18432.Idx => rowCode m c (y 0) (y 1)) shapeCasts_S7680x18432_S6x1280x18432 := by
  have e : V4 m (outs m) c main_v1_0 = fun y : S7680x18432.Idx => rowCode m c (y 0) (y 1) :=
    (V4_of m (outs m) c main_v1_0 (by decide)).trans (codes_in m c)
  rw [← e]
  unfold V5
  generalize V4 m (outs m) c = U
  simp only [hostOps2]
  after_results <;> rfl

/-- The third result. -/
theorem res2 (c : Dev nD) : V5 m (outs m) c main_v6
    = shapeCast _ (fun y : S7680x1.Idx => rowScale m c (y 0)) shapeCasts_S7680x1_S6x1280 := by
  have e : V4 m (outs m) c main_v1_1 = fun y : S7680x1.Idx => rowScale m c (y 0) :=
    (V4_of m (outs m) c main_v1_1 (by decide)).trans (scales_in m c)
  rw [← e]
  unfold V5
  generalize V4 m (outs m) c = U
  simp only [hostOps2]
  after_results <;> rfl

end Cert.KernelIdeal.KerValue

end
-- ==== Proof.ReferenceHost.lean ====
/- What the reference's host lines hand to its region: the rotated rows, the two planes of nibbles and the weights' scale. -/
module

public import proofs.«01_k».proof.Proof.Gen.ReferenceIdeal.Frame
public import Idealize.ShloMosaic.Lib.StableHlo.ReadAt
public import Idealize.ShloMosaic.Lib.Pointwise
public import proofs.«01_k».proof.Proof.Spec
public import proofs.«01_k».proof.Proof.Rotation

@[expose] public section

set_option maxRecDepth 16384

noncomputable section

namespace Cert.ReferenceIdeal.RefHost

open Cert.ReferenceIdeal.Gen
open Idealize.ShloMosaic Idealize.ShloMosaic.TcCoe Idealize.ShloMosaic.Tactic

variable (m : (ℓ : Loc nD τ sig) → Buf (Elt Ideal) ℓ)

theorem wscale (c : Dev nD) (j : Fin 7168) : V m c main_v29 (ix2 0 j) = m (c.tc.loc main_arg2) (ix1 j) := by
  unfold V V0
  after_reads_at

theorem lo_word (b : BitVec 8) : (BitVec.setWidth 8
      (Scalar.select
        (IntOp.cmpi CmpIPredicate.sge (IntOp.andi (BitVec.setWidth 32 b) 15#32) 8#32)
        (IntOp.subi (IntOp.andi (BitVec.setWidth 32 b) 15#32) 16#32)
        (IntOp.andi (BitVec.setWidth 32 b) 15#32))).toInt = Bits.nibLo b := by
  revert b
  decide +kernel

theorem hi_word (b : BitVec 8) : (BitVec.setWidth 8
      (Scalar.select
        (IntOp.cmpi CmpIPredicate.sge
          (IntOp.shrsi ArithUnit.host (BitVec.setWidth 32 b) 4#32) 8#32)
        (IntOp.subi (IntOp.shrsi ArithUnit.host (BitVec.setWidth 32 b) 4#32) 16#32)
        (IntOp.shrsi ArithUnit.host (BitVec.setWidth 32 b) 4#32))).toInt = Bits.nibHi b := by
  revert b
  decide +kernel

theorem lo_read (c : Dev nD) (i : Fin 9216) (j : Fin 7168) :
    BitVec.toInt (V m c main_v20 (ix2 i j) : BitVec 8) = Bits.nibLo (m (c.tc.loc main_arg1) (ix2 i j)) := by
  refine Eq.trans ?_ (lo_word _)
  congr 1

theorem hi_read (c : Dev nD) (i : Fin 9216) (j : Fin 7168) :
    BitVec.toInt (V m c main_v28 (ix2 i j) : BitVec 8) = Bits.nibHi (m (c.tc.loc main_arg1) (ix2 i j)) := by
  refine Eq.trans ?_ (hi_word _)
  congr 1

/-- The 2 × 2 matrix the reference starts from. -/
theorem base (a b : Fin 2) : Ideal.ofBits .f32 (lit0 (S2x2.rowMajor (ix2 a b))) = Spec.sgnE (Sign.neg 0 a.val b.val) := by
  fin_cases a <;> fin_cases b
  · exact Ideal.ofBits_one_f32
  · exact Ideal.ofBits_one_f32
  · exact Ideal.ofBits_one_f32
  · show Ideal.ofBits .f32 0xBF800000#32 = -1
    rw [show (-1 : EReal) = ((-1 : ℝ) : EReal) by rw [EReal.coe_neg, EReal.coe_one]]
    simp [Ideal.ofBits, Ideal.ieee, -EReal.coe_mul]
    norm_num

/-- The rows the region reads are the rows rotated. -/
theorem x_rot (c : Dev nD) (i : Fin 7680) (n : Fin 18432) :
    V m c main_v11 (ix2 i n)
      = Spec.rrot (fun n => m (c.tc.loc main_arg0) (ix3 ⟨i.val / 1280, by omega⟩ ⟨i.val % 1280, by omega⟩ n)) n := by
  unfold V V0 Spec.rrot
  after_reads_at
  refine Finset.sum_congr rfl fun k _ => ?_
  refine congrArg₂ (· * ·) rfl (congrArg₂ (· * ·) ?_ rfl)
  simp only [base, ← Spec.sgnE_xor, Sign.neg, Nat.mod_mod]

end Cert.ReferenceIdeal.RefHost

end
-- ==== Proof.ReferenceValue.lean ====
/- The reference's region over the extended reals: the three arrays it leaves, element by element. -/
module

public import proofs.«01_k».proof.Proof.ReferenceHost
public import Idealize.ShloMosaic.Lib.Pipeline.ValueKit
public import Idealize.ShloMosaic.Lib.Pipeline.Value

@[expose] public section

set_option maxRecDepth 16384

noncomputable section

namespace Cert.ReferenceIdeal.RefValue

open Cert.ReferenceIdeal.Gen
open Idealize.ShloMosaic Idealize.ShloMosaic.TcCoe Idealize.ShloMosaic.Tactic
open Idealize.ShloMosaic.Pipeline (Dat)

variable {F : FTy → Type} [FloatOps F]

/-- The largest magnitude of each row. -/
def amaxW (w : FVec F S7680x18432 .f32) : FVec F S7680 .f32 :=
  multiReduction .maximumf [1] S7680 (absf w) 0xFF800000#32 reduces_S7680x18432_S7680 (.inl rfl) rfl

/-- The scales from the largest magnitudes. -/
def scaleW (a : FVec F S7680 .f32) : FVec F S7680 .f32 :=
  select (cmpf .oeq a (broadcast S7680 (Scalar.ofBits .f32 0x00000000#32))) (broadcast S7680 (Scalar.ofBits .f32 0x3F800000#32))
    (divf a (broadcast S7680 (Scalar.ofBits .f32 0x42FE0000#32)))

/-- The codes from the rotated rows and the scales. -/
def codeW (w : FVec F S7680x18432 .f32) (s : FVec F S7680x1 .f32) : IVec S7680x18432 8 :=
  fptosi 8 (minimumf (broadcast S7680x18432 (Scalar.sitofp .f32 127#32)) (maximumf (broadcast S7680x18432 (Scalar.sitofp .f32 4294967169#32))
    (roundeven (divf w (broadcastTo S7680x18432 s broadcasts_S7680x1_S7680x18432)))))

/-- The product of the codes with the two planes of nibbles. -/
def prodW (a : FVec F S7680x18432 .bf16) (l h : FVec F S9216x7168 .bf16) : FVec F S7680x7168 .f32 :=
  addf (matmul dot_S7680x9216_S9216x7168_S7680x7168_1_0_0_1_n_n none
      (extractStridedSlice S7680x9216 ![0, 0] a slices_S7680x18432_o0_0_S7680x9216) l (constant S7680x7168 .f32 0x00000000#32))
    (matmul dot_S7680x9216_S9216x7168_S7680x7168_1_0_0_1_n_n none
      (extractStridedSlice S7680x9216 ![0, 9216] a slices_S7680x18432_o0_9216_S7680x9216) h (constant S7680x7168 .f32 0x00000000#32))

/-- The product scaled by the rows' scales. -/
def rowScaledW (p : FVec F S7680x7168 .f32) (s : FVec F S7680x1 .f32) : FVec F S7680x7168 .f32 :=
  mulf p (broadcastTo S7680x7168 s broadcasts_S7680x1_S7680x7168)

theorem pay2_eq (v : Vec F S7680x18432 .f32) : k0_pay2 v = v := shapeCast_self v _

theorem pay3_eq (x0 : Vec F S7680x18432 .f32) : k0_pay3 x0 = scaleW (amaxW x0) := by
  unfold k0_pay3 scaleW amaxW
  simp only [pay2_eq]

theorem pay4_eq (x0 : Vec F S7680x18432 .f32) :
    k0_pay4 x0 = codeW x0 (shapeCast S7680x1 (k0_pay3 x0) shapeCasts_S7680_S7680x1) := by
  unfold k0_pay4 codeW
  simp only [pay2_eq]

theorem pay6_eq (x0 : Vec F S7680x18432 .f32) (x1 x2 : Vec F S9216x7168 .i8) :
    k0_pay6 x0 x1 x2 = rowScaledW (prodW (sitofp .bf16 (k0_pay4 x0)) (sitofp .bf16 x1) (sitofp .bf16 x2))
      (shapeCast S7680x1 (k0_pay3 x0) shapeCasts_S7680_S7680x1) := by
  unfold k0_pay6 rowScaledW prodW
  simp only [shapeCast_self]

theorem absf_eq (a : EReal) : FloatOps.absf (F := Ideal) (φ := .f32) a = max a (-a) := rfl

/-- The largest magnitude of one row. -/
theorem amaxW_apply (w : FVec Ideal S7680x18432 .f32) (i : Fin 7680) : amaxW w (ix1 i) = Spec.amaxRow fun n => w (ix2 i n) := by
  unfold amaxW Spec.amaxRow
  pointwise []
  rw [Spec.ofBits_negInf]
  simp only [absf_eq]

/-- The scale of one row, from its largest magnitude. -/
theorem scaleW_apply (a : FVec Ideal S7680 .f32) (i : Fin 7680) : scaleW a (ix1 i) = Spec.scaleOfMax (a (ix1 i)) := by
  unfold scaleW Spec.scaleOfMax
  pointwise []

/-- One code, from its value and its scale. -/
theorem codeW_apply (w : FVec Ideal S7680x18432 .f32) (s : FVec Ideal S7680x1 .f32) (i : Fin 7680) (n : Fin 18432) :
    codeW w s (ix2 i n) = Spec.code (w (ix2 i n)) (s (ix2 i 0)) := by
  have b : broadcastTo S7680x18432 s broadcasts_S7680x1_S7680x18432 (ix2 i n) = s (ix2 i 0) := by
    pointwise []
  exact congrArg (Spec.code (w (ix2 i n))) b

/-- One element of the product. -/
theorem prodW_apply (a : FVec Ideal S7680x18432 .bf16) (l h : FVec Ideal S9216x7168 .bf16) (i : Fin 7680) (j : Fin 7168) :
    prodW a l h (ix2 i j) = (∑ k : Fin 9216, (a (ix2 i ⟨k.val, by omega⟩) : EReal) * l (ix2 k j))
      + ∑ k : Fin 9216, (a (ix2 i ⟨9216 + k.val, by omega⟩) : EReal) * h (ix2 k j) := by
  unfold prodW
  pointwise []

/-- One element of the product scaled by its row's scale. -/
theorem rowScaledW_apply (p : FVec Ideal S7680x7168 .f32) (s : FVec Ideal S7680x1 .f32) (i : Fin 7680) (j : Fin 7168) :
    rowScaledW p s (ix2 i j) = (p (ix2 i j) : EReal) * s (ix2 i 0) := by
  unfold rowScaledW
  pointwise []

/-- A column of scales is the row of them. -/
theorem col_apply (a : FVec Ideal S7680 .f32) (i : Fin 7680) (j : Fin 1) :
    shapeCast S7680x1 a shapeCasts_S7680_S7680x1 (ix2 i j) = a (ix1 i) := by
  pointwise []

/-- The scale of one row. -/
theorem scale_apply (x0 : Vec Ideal S7680x18432 .f32) (i : Fin 7680) :
    k0_pay3 x0 (ix1 i) = Spec.scaleOfMax (Spec.amaxRow fun n => x0 (ix2 i n)) := by
  rw [pay3_eq, scaleW_apply, amaxW_apply]

/-- One code. -/
theorem code_apply (x0 : Vec Ideal S7680x18432 .f32) (i : Fin 7680) (n : Fin 18432) :
    k0_pay4 x0 (ix2 i n) = Spec.code (x0 (ix2 i n)) (Spec.scaleOfMax (Spec.amaxRow fun n => x0 (ix2 i n))) := by
  rw [pay4_eq, codeW_apply, col_apply, scale_apply]

/-- The scale of one row, as the region stores it. -/
theorem scale_col (x0 : Vec Ideal S7680x18432 .f32) (i : Fin 7680) (j : Fin 1) :
    k0_pay5 x0 (ix2 i j) = Spec.scaleOfMax (Spec.amaxRow fun n => x0 (ix2 i n)) := by
  unfold k0_pay5
  rw [← scale_apply]
  pointwise []

/-- The product's conversions read as integers. -/
theorem prodGen (A : Fin 18432 → BitVec 8) (L H : Fin 9216 → BitVec 8) (s : EReal) :
    ((∑ x : Fin 9216, FloatOps.sitofp (F := Ideal) FTy.bf16 (A ⟨x.val, by omega⟩) * FloatOps.sitofp (F := Ideal) FTy.bf16 (L x))
      + ∑ x : Fin 9216, FloatOps.sitofp (F := Ideal) FTy.bf16 (A ⟨9216 + x.val, by omega⟩) * FloatOps.sitofp (F := Ideal) FTy.bf16 (H x)) * s
      = ((∑ k : Fin 9216, Spec.intE (A ⟨k.val, by omega⟩).toInt * Spec.intE (L k).toInt)
        + ∑ k : Fin 9216, Spec.intE (A ⟨9216 + k.val, by omega⟩).toInt * Spec.intE (H k).toInt) * s := by
  simp only [Spec.sitofp_eq]

/-- One element of the product, before the weights' scale. -/
theorem prod_apply (x0 : Vec Ideal S7680x18432 .f32) (x1 x2 : Vec Ideal S9216x7168 .i8) (i : Fin 7680) (j : Fin 7168) :
    k0_pay6 x0 x1 x2 (ix2 i j)
      = ((∑ k : Fin 9216, Spec.intE (k0_pay4 x0 (ix2 i ⟨k.val, by omega⟩)).toInt * Spec.intE (x1 (ix2 k j) : BitVec 8).toInt)
        + ∑ k : Fin 9216, Spec.intE (k0_pay4 x0 (ix2 i ⟨9216 + k.val, by omega⟩)).toInt * Spec.intE (x2 (ix2 k j) : BitVec 8).toInt)
        * Spec.scaleOfMax (Spec.amaxRow fun n => x0 (ix2 i n)) := by
  rw [pay6_eq, rowScaledW_apply, prodW_apply, col_apply, scale_apply]
  generalize k0_pay4 x0 = A
  exact prodGen (fun n => A (ix2 i n)) (fun k => x1 (ix2 k j)) (fun k => x2 (ix2 k j)) _

/-- One element of the first result. -/
theorem y_apply (p : FVec Ideal S7680x7168 .f32) (x3 : Vec Ideal S1x7168 .f32) (i : Fin 7680) (j : Fin 7168) :
    k0_pay1 p x3 (ix2 i j) = (p (ix2 i j) : EReal) * x3 (ix2 0 j) := by
  unfold k0_pay1
  pointwise []

/-- The product with the two planes read as nibbles. -/
theorem dot_congr (A : Fin 18432 → BitVec 8) (L H : Fin 9216 → ℤ) (b : Fin 9216 → BitVec 8) (hL : ∀ k, L k = Bits.nibLo (b k))
    (hH : ∀ k, H k = Bits.nibHi (b k)) :
    ((∑ k : Fin 9216, Spec.intE (A ⟨k.val, by omega⟩).toInt * Spec.intE (L k))
      + ∑ k : Fin 9216, Spec.intE (A ⟨9216 + k.val, by omega⟩).toInt * Spec.intE (H k)) = Spec.dotRow A b := by
  unfold Spec.dotRow
  simp only [hL, hH]

section Arrays

variable (m : (ℓ : Loc nD τ sig) → Buf (Elt Ideal) ℓ)

/-- The rotated rows. -/
def rot (c : Dev nD) (i : Fin 7680) : Fin 18432 → EReal :=
  Spec.rrot fun n => m (c.tc.loc main_arg0) (ix3 ⟨i.val / 1280, by omega⟩ ⟨i.val % 1280, by omega⟩ n)

/-- The scale of a row. -/
def rowScale (c : Dev nD) (i : Fin 7680) : EReal := Spec.scaleOfMax (Spec.amaxRow (rot m c i))

/-- The code of an element. -/
def rowCode (c : Dev nD) (i : Fin 7680) (n : Fin 18432) : BitVec 8 := Spec.code (rot m c i n) (rowScale m c i)

/-- An element of the first result. -/
def yAt (c : Dev nD) (i : Fin 7680) (j : Fin 7168) : EReal :=
  Spec.dotRow (rowCode m c i) (fun k => m (c.tc.loc main_arg1) (ix2 k j)) * rowScale m c i * m (c.tc.loc main_arg2) (ix1 j)

theorem idx0 : win0_0.index t0_0 = ![0, 0] := by decide +kernel
theorem idx1 : win0_1.index t0_0 = ![0, 0] := by decide +kernel
theorem idx2 : win0_2.index t0_0 = ![0, 0] := by decide +kernel
theorem idx3 : win0_3.index t0_0 = ![0, 0] := by decide +kernel

theorem blk0_at (c : Dev nD) (i : Fin 7680) (n : Fin 18432) : (iblk m c 0 t0_0 (ix2 i n) : EReal) = rot m c i n := by
  refine Eq.trans ?_ (RefHost.x_rot m c i n)
  blk_ext [iblk, idx0]

theorem blk0 (c : Dev nD) (i : Fin 7680) : (fun n => (iblk m c 0 t0_0 (ix2 i n) : EReal)) = rot m c i :=
  funext fun n => blk0_at m c i n

theorem blk1 (c : Dev nD) (i : Fin 9216) (j : Fin 7168) : (iblk m c 1 t0_0 (ix2 i j) : BitVec 8) = V m c main_v20 (ix2 i j) := by
  blk_ext [iblk, idx1]

theorem blk2 (c : Dev nD) (i : Fin 9216) (j : Fin 7168) : (iblk m c 2 t0_0 (ix2 i j) : BitVec 8) = V m c main_v28 (ix2 i j) := by
  blk_ext [iblk, idx2]

theorem blk3 (c : Dev nD) (j : Fin 7168) : (iblk m c 3 t0_0 (ix2 0 j) : EReal) = m (c.tc.loc main_arg2) (ix1 j) := by
  refine Eq.trans ?_ (RefHost.wscale m c j)
  blk_ext [iblk, idx3]

theorem scale_blk (c : Dev nD) (i : Fin 7680) :
    Spec.scaleOfMax (Spec.amaxRow fun n => iblk m c 0 t0_0 (ix2 i n)) = rowScale m c i := by
  unfold rowScale
  rw [blk0]

theorem code_blk (c : Dev nD) (i : Fin 7680) (n : Fin 18432) : k0_pay4 (iblk m c 0 t0_0) (ix2 i n) = rowCode m c i n := by
  rw [code_apply, scale_blk, blk0_at]
  unfold rowCode
  with_reducible rfl

theorem scale_col_blk (c : Dev nD) (i : Fin 7680) (j : Fin 1) : k0_pay5 (iblk m c 0 t0_0) (ix2 i j) = rowScale m c i := by
  rw [scale_col, scale_blk]

theorem y_blk (c : Dev nD) (i : Fin 7680) (j : Fin 7168) :
    k0_pay1 (k0_pay6 (iblk m c 0 t0_0) (iblk m c 1 t0_0) (iblk m c 2 t0_0)) (iblk m c 3 t0_0) (ix2 i j) = yAt m c i j := by
  rw [y_apply, prod_apply, scale_blk, blk3]
  simp only [code_blk, blk1, blk2]
  have e := dot_congr (rowCode m c i) (fun k => BitVec.toInt (V m c main_v20 (ix2 k j) : BitVec 8))
    (fun k => BitVec.toInt (V m c main_v28 (ix2 k j) : BitVec 8)) (fun k => m (c.tc.loc main_arg1) (ix2 k j))
    (fun k => RefHost.lo_read m c k j) (fun k => RefHost.hi_read m c k j)
  rw [e]
  unfold yAt
  with_reducible rfl

/-- The codes array after the region. -/
theorem codes_arr (c : Dev nD) : (dats m 0 c).arrAt 5 cfg0.N = fun y : S7680x18432.Idx => rowCode m c (y 0) (y 1) := by
  refine (dats m 0 c).arrAt_eq_of_after_last 5 t0_0 (by decide +kernel) _ fun j => ?_
  blk_simp
  rw [after0_5]
  frame_out
  exact (congrArg _ (ix2_eta j).symm).trans (code_blk m c (j 0) (j 1))

/-- The scales array after the region. -/
theorem scales_arr (c : Dev nD) : (dats m 0 c).arrAt 6 cfg0.N = fun y : S7680x1.Idx => rowScale m c (y 0) := by
  refine (dats m 0 c).arrAt_eq_of_after_last 6 t0_0 (by decide +kernel) _ fun j => ?_
  blk_simp
  rw [after0_6]
  frame_out
  exact (congrArg _ (ix2_eta j).symm).trans (scale_col_blk m c (j 0) (j 1))

/-- The product array after the region. -/
theorem y_arr (c : Dev nD) : (dats m 0 c).arrAt 4 cfg0.N = fun y : S7680x7168.Idx => yAt m c (y 0) (y 1) := by
  refine (dats m 0 c).arrAt_eq_of_after_last 4 t0_0 (by decide +kernel) _ fun j => ?_
  blk_simp
  rw [after0_4]
  frame_out
  exact (congrArg _ (ix2_eta j).symm).trans (y_blk m c (j 0) (j 1))

end Arrays

end Cert.ReferenceIdeal.RefValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.KernelLaunch
public import proofs.«01_k».proof.Proof.KernelIdealLaunch
public import proofs.«01_k».proof.Proof.KernelIdealValue
public import proofs.«01_k».proof.Proof.ReferenceValue
public import Idealize.ShloMosaic.Adequacy
public import Idealize.ShloMosaic.Init

@[expose] public section

noncomputable section

namespace Cert.Proof

open Idealize.ShloMosaic Idealize.ShloMosaic.TcCoe Idealize.SL.Sem

/-- The kernel runs, its arguments unchanged, every counter zero again. -/
theorem quiescent_kernel [Cert.Kernel.Facts] : quiescent_Kernel := fun m g _ =>
  (θ_run _ _ _).mono (fun _ h => ⟨fun c => (h.1 c).1, h.2⟩) (Cert.Kernel.Launch.run m g)

/-- The same over the extended reals. -/
theorem quiescent_kernelIdeal [Cert.KernelIdeal.Facts] : quiescent_KernelIdeal := fun m g _ =>
  (θ_run _ _ _).mono (fun _ h => ⟨fun c => (h.1 c).1, h.2⟩) (Cert.KernelIdeal.Launch.run m g)

section Reference

open Cert.ReferenceIdeal

/-- The reference runs, its arguments unchanged, every counter zero again. -/
theorem quiescent_referenceIdeal [Cert.ReferenceIdeal.Facts] : quiescent_ReferenceIdeal := fun m g _ =>
  (θ_run _ _ _).mono (fun _ h => ⟨fun c =>
    ⟨((h.1 c).2 main_arg0 (Pipeline.mem_restRefs_of main_arg0 (by decide) (by decide))).trans (Gen.W_main_arg0 m (Gen.dats m) c),
      ((h.1 c).2 main_arg1 (Pipeline.mem_restRefs_of main_arg1 (by decide) (by decide))).trans (Gen.W_main_arg1 m (Gen.dats m) c),
      ((h.1 c).2 main_arg2 (Pipeline.mem_restRefs_of main_arg2 (by decide) (by decide))).trans (Gen.W_main_arg2 m (Gen.dats m) c)⟩, h.2⟩)
    (Gen.run_main_quiescent m g)

end Reference

section Agree

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))

include h0 in
theorem rot_agree : Cert.ReferenceIdeal.RefValue.rot m' c = Cert.KernelIdeal.KerValue.rot m c := by
  unfold Cert.ReferenceIdeal.RefValue.rot Cert.KernelIdeal.KerValue.rot
  rw [h0]

include h0 in
theorem scale_agree (i : Fin 7680) : Cert.ReferenceIdeal.RefValue.rowScale m' c i = Cert.KernelIdeal.KerValue.rowScale m c i := by
  unfold Cert.ReferenceIdeal.RefValue.rowScale Cert.KernelIdeal.KerValue.rowScale
  rw [rot_agree m m' c h0]

include h0 in
theorem code_agree (i : Fin 7680) (n : Fin 18432) : Cert.ReferenceIdeal.RefValue.rowCode m' c i n = Cert.KernelIdeal.KerValue.rowCode m c i n := by
  unfold Cert.ReferenceIdeal.RefValue.rowCode Cert.KernelIdeal.KerValue.rowCode
  rw [rot_agree m m' c h0, scale_agree m m' c h0]

include h0 h1 h2 in
theorem y_agree (i : Fin 7680) (j : Fin 7168) : Cert.ReferenceIdeal.RefValue.yAt m' c i j = Cert.KernelIdeal.KerValue.yAt m c i j := by
  unfold Cert.ReferenceIdeal.RefValue.yAt Cert.KernelIdeal.KerValue.yAt
  rw [scale_agree m m' c h0, show Cert.ReferenceIdeal.RefValue.rowCode m' c i = Cert.KernelIdeal.KerValue.rowCode m c i from funext (code_agree m m' c h0 i), h1, h2]

end Agree

/-- Over the extended reals the kernel and the reference leave equal results. -/
theorem algebraic [Cert.KernelIdeal.Facts] [Cert.ReferenceIdeal.Facts] : algebraic_KernelIdeal_ReferenceIdeal := by
  intro m g m' g' _ hm
  refine ⟨fun c => shapeCast _ (fun y : Cert.KernelIdeal.S7680x7168.Idx => Cert.KernelIdeal.KerValue.yAt m c (y 0) (y 1)) Cert.KernelIdeal.Gen.shapeCasts_S7680x7168_S6x1280x7168,
    fun c => shapeCast _ (fun y : Cert.KernelIdeal.S7680x18432.Idx => Cert.KernelIdeal.KerValue.rowCode m c (y 0) (y 1)) Cert.KernelIdeal.Gen.shapeCasts_S7680x18432_S6x1280x18432,
    fun c => shapeCast _ (fun y : Cert.KernelIdeal.S7680x1.Idx => Cert.KernelIdeal.KerValue.rowScale m c (y 0)) Cert.KernelIdeal.Gen.shapeCasts_S7680x1_S6x1280, ?_, ?_⟩
  · refine (θ_run _ _ _).mono (fun _ h c => ?_) (Cert.KernelIdeal.Launch.run m g)
    obtain ⟨⟨a0, a1, a2⟩, r0, r1, r2⟩ := h.1 c
    exact ⟨r0.trans (Cert.KernelIdeal.KerValue.res0 m c), r1.trans (Cert.KernelIdeal.KerValue.res1 m c),
      r2.trans (Cert.KernelIdeal.KerValue.res2 m c), a0, a1, a2⟩
  · refine (θ_run _ _ _).mono (fun _ h c => ?_) (Cert.ReferenceIdeal.Value.run m' g')
    obtain ⟨r0, r1, r2, a0, a1, a2⟩ := h c
    obtain ⟨h0, h1, h2⟩ := hm c
    have e0 : Cert.ReferenceIdeal.Value.reg_main_v30_0 m' c = fun y : Cert.ReferenceIdeal.S7680x7168.Idx => Cert.KernelIdeal.KerValue.yAt m c (y 0) (y 1) :=
      (Cert.ReferenceIdeal.RefValue.y_arr m' c).trans (funext fun y => y_agree m m' c h0 h1 h2 (y 0) (y 1))
    have e1 : Cert.ReferenceIdeal.Value.reg_main_v30_1 m' c = fun y : Cert.ReferenceIdeal.S7680x18432.Idx => Cert.KernelIdeal.KerValue.rowCode m c (y 0) (y 1) :=
      (Cert.ReferenceIdeal.RefValue.codes_arr m' c).trans (funext fun y => code_agree m m' c h0 (y 0) (y 1))
    have e2 : Cert.ReferenceIdeal.Value.reg_main_v30_2 m' c = fun y : Cert.ReferenceIdeal.S7680x1.Idx => Cert.KernelIdeal.KerValue.rowScale m c (y 0) :=
      (Cert.ReferenceIdeal.RefValue.scales_arr m' c).trans (funext fun y => scale_agree m m' c h0 (y 0))
    rw [e0] at r0
    rw [e1] at r1
    rw [e2] at r2
    exact ⟨r0, r1, r2, a0, a1, a2⟩

theorem claim : Cert.Claim := ⟨Cert.Kernel.Gen.facts, Cert.KernelIdeal.Gen.facts, Cert.ReferenceIdeal.Gen.facts,
  quiescent_kernel, quiescent_kernelIdeal, quiescent_referenceIdeal, trivial, algebraic⟩

end Cert.Proof

end
